-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KernelOfBits (m : (ℓ : Loc Cert.KernelOfBits.nD Cert.KernelOfBits.τ Cert.KernelOfBits.sig) → Buf (Elt Bits) ℓ) : Prop :=
  True

def Pre_KernelOfBitsIdeal (m : (ℓ : Loc Cert.KernelOfBitsIdeal.nD Cert.KernelOfBitsIdeal.τ Cert.KernelOfBitsIdeal.sig) → Buf (Elt Ideal) ℓ) : Prop :=
  True

def Pre_KernelOfBitsIdeal_gate_finite [hPre_gate_finite : Cert.Pre_gate_finite.Facts] (m : (ℓ : Loc Cert.KernelOfBitsIdeal.nD Cert.KernelOfBitsIdeal.τ Cert.KernelOfBitsIdeal.sig) → Buf (Elt Ideal) ℓ) : Prop :=
  ∀ c : Dev Cert.KernelOfBitsIdeal.nD,
    (Cert.Pre_gate_finite.fn (F := Ideal) (m ((c.tc : Thread Cert.KernelOfBitsIdeal.nD Cert.KernelOfBitsIdeal.τ).loc Cert.KernelOfBitsIdeal.main_arg0)) (m ((c.tc : Thread Cert.KernelOfBitsIdeal.nD Cert.KernelOfBitsIdeal.τ).loc Cert.KernelOfBitsIdeal.main_arg1)) (m ((c.tc : Thread Cert.KernelOfBitsIdeal.nD Cert.KernelOfBitsIdeal.τ).loc Cert.KernelOfBitsIdeal.main_arg2)) (m ((c.tc : Thread Cert.KernelOfBitsIdeal.nD Cert.KernelOfBitsIdeal.τ).loc Cert.KernelOfBitsIdeal.main_arg3)) (m ((c.tc : Thread Cert.KernelOfBitsIdeal.nD Cert.KernelOfBitsIdeal.τ).loc Cert.KernelOfBitsIdeal.main_arg4)) (m ((c.tc : Thread Cert.KernelOfBitsIdeal.nD Cert.KernelOfBitsIdeal.τ).loc Cert.KernelOfBitsIdeal.main_arg5))) = (fun _ => 1#1)

def Pre_ReferenceOfBitsIdeal [hPre_gate_finite : Cert.Pre_gate_finite.Facts] (m : (ℓ : Loc Cert.ReferenceOfBitsIdeal.nD Cert.ReferenceOfBitsIdeal.τ Cert.ReferenceOfBitsIdeal.sig) → Buf (Elt Ideal) ℓ) : Prop :=
  ∀ c : Dev Cert.ReferenceOfBitsIdeal.nD,
    (Cert.Pre_gate_finite.fn (F := Ideal) (m ((c.tc : Thread Cert.ReferenceOfBitsIdeal.nD Cert.ReferenceOfBitsIdeal.τ).loc Cert.ReferenceOfBitsIdeal.main_arg0)) (m ((c.tc : Thread Cert.ReferenceOfBitsIdeal.nD Cert.ReferenceOfBitsIdeal.τ).loc Cert.ReferenceOfBitsIdeal.main_arg1)) (m ((c.tc : Thread Cert.ReferenceOfBitsIdeal.nD Cert.ReferenceOfBitsIdeal.τ).loc Cert.ReferenceOfBitsIdeal.main_arg2)) (m ((c.tc : Thread Cert.ReferenceOfBitsIdeal.nD Cert.ReferenceOfBitsIdeal.τ).loc Cert.ReferenceOfBitsIdeal.main_arg3)) (m ((c.tc : Thread Cert.ReferenceOfBitsIdeal.nD Cert.ReferenceOfBitsIdeal.τ).loc Cert.ReferenceOfBitsIdeal.main_arg4)) (m ((c.tc : Thread Cert.ReferenceOfBitsIdeal.nD Cert.ReferenceOfBitsIdeal.τ).loc Cert.ReferenceOfBitsIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_KernelOfBits [hKernelOfBits : Cert.KernelOfBits.Facts] : Prop :=
  ∀ (m : (ℓ : Loc Cert.KernelOfBits.nD Cert.KernelOfBits.τ Cert.KernelOfBits.sig) → Buf (Elt Bits) ℓ) (g : Dev Cert.KernelOfBits.nD → PrngReg), Pre_KernelOfBits m →
    θ_run (Cert.KernelOfBits.defs (F := Bits)) (onTc (τ := Cert.KernelOfBits.τ) (Cert.KernelOfBits.main (F := Bits))) ⟨m, fun _ => 0, g⟩ (fun r => (∀ c : Dev Cert.KernelOfBits.nD,
      r.2.mem ((c.tc : Thread Cert.KernelOfBits.nD Cert.KernelOfBits.τ).loc Cert.KernelOfBits.main_arg0) = m ((c.tc : Thread Cert.KernelOfBits.nD Cert.KernelOfBits.τ).loc Cert.KernelOfBits.main_arg0)
      ∧ r.2.mem ((c.tc : Thread Cert.KernelOfBits.nD Cert.KernelOfBits.τ).loc Cert.KernelOfBits.main_arg1) = m ((c.tc : Thread Cert.KernelOfBits.nD Cert.KernelOfBits.τ).loc Cert.KernelOfBits.main_arg1)
      ∧ r.2.mem ((c.tc : Thread Cert.KernelOfBits.nD Cert.KernelOfBits.τ).loc Cert.KernelOfBits.main_arg2) = m ((c.tc : Thread Cert.KernelOfBits.nD Cert.KernelOfBits.τ).loc Cert.KernelOfBits.main_arg2)
      ∧ r.2.mem ((c.tc : Thread Cert.KernelOfBits.nD Cert.KernelOfBits.τ).loc Cert.KernelOfBits.main_arg3) = m ((c.tc : Thread Cert.KernelOfBits.nD Cert.KernelOfBits.τ).loc Cert.KernelOfBits.main_arg3)
      ∧ r.2.mem ((c.tc : Thread Cert.KernelOfBits.nD Cert.KernelOfBits.τ).loc Cert.KernelOfBits.main_arg4) = m ((c.tc : Thread Cert.KernelOfBits.nD Cert.KernelOfBits.τ).loc Cert.KernelOfBits.main_arg4)
      ∧ r.2.mem ((c.tc : Thread Cert.KernelOfBits.nD Cert.KernelOfBits.τ).loc Cert.KernelOfBits.main_arg5) = m ((c.tc : Thread Cert.KernelOfBits.nD Cert.KernelOfBits.τ).loc Cert.KernelOfBits.main_arg5))
      ∧ r.2.sem = fun _ => 0)

def quiescent_KernelOfBitsIdeal [hKernelOfBitsIdeal : Cert.KernelOfBitsIdeal.Facts] : Prop :=
  ∀ (m : (ℓ : Loc Cert.KernelOfBitsIdeal.nD Cert.KernelOfBitsIdeal.τ Cert.KernelOfBitsIdeal.sig) → Buf (Elt Ideal) ℓ) (g : Dev Cert.KernelOfBitsIdeal.nD → PrngReg), Pre_KernelOfBitsIdeal m →
    θ_run (Cert.KernelOfBitsIdeal.defs (F := Ideal)) (onTc (τ := Cert.KernelOfBitsIdeal.τ) (Cert.KernelOfBitsIdeal.main (F := Ideal))) ⟨m, fun _ => 0, g⟩ (fun r => (∀ c : Dev Cert.KernelOfBitsIdeal.nD,
      r.2.mem ((c.tc : Thread Cert.KernelOfBitsIdeal.nD Cert.KernelOfBitsIdeal.τ).loc Cert.KernelOfBitsIdeal.main_arg0) = m ((c.tc : Thread Cert.KernelOfBitsIdeal.nD Cert.KernelOfBitsIdeal.τ).loc Cert.KernelOfBitsIdeal.main_arg0)
      ∧ r.2.mem ((c.tc : Thread Cert.KernelOfBitsIdeal.nD Cert.KernelOfBitsIdeal.τ).loc Cert.KernelOfBitsIdeal.main_arg1) = m ((c.tc : Thread Cert.KernelOfBitsIdeal.nD Cert.KernelOfBitsIdeal.τ).loc Cert.KernelOfBitsIdeal.main_arg1)
      ∧ r.2.mem ((c.tc : Thread Cert.KernelOfBitsIdeal.nD Cert.KernelOfBitsIdeal.τ).loc Cert.KernelOfBitsIdeal.main_arg2) = m ((c.tc : Thread Cert.KernelOfBitsIdeal.nD Cert.KernelOfBitsIdeal.τ).loc Cert.KernelOfBitsIdeal.main_arg2)
      ∧ r.2.mem ((c.tc : Thread Cert.KernelOfBitsIdeal.nD Cert.KernelOfBitsIdeal.τ).loc Cert.KernelOfBitsIdeal.main_arg3) = m ((c.tc : Thread Cert.KernelOfBitsIdeal.nD Cert.KernelOfBitsIdeal.τ).loc Cert.KernelOfBitsIdeal.main_arg3)
      ∧ r.2.mem ((c.tc : Thread Cert.KernelOfBitsIdeal.nD Cert.KernelOfBitsIdeal.τ).loc Cert.KernelOfBitsIdeal.main_arg4) = m ((c.tc : Thread Cert.KernelOfBitsIdeal.nD Cert.KernelOfBitsIdeal.τ).loc Cert.KernelOfBitsIdeal.main_arg4)
      ∧ r.2.mem ((c.tc : Thread Cert.KernelOfBitsIdeal.nD Cert.KernelOfBitsIdeal.τ).loc Cert.KernelOfBitsIdeal.main_arg5) = m ((c.tc : Thread Cert.KernelOfBitsIdeal.nD Cert.KernelOfBitsIdeal.τ).loc Cert.KernelOfBitsIdeal.main_arg5))
      ∧ r.2.sem = fun _ => 0)

def quiescent_KernelOfBitsIdeal_pre_gate_finite [hKernelOfBitsIdeal : Cert.KernelOfBitsIdeal.Facts] [hPre_gate_finite : Cert.Pre_gate_finite.Facts] : Prop :=
  ∀ (m : (ℓ : Loc Cert.KernelOfBitsIdeal.nD Cert.KernelOfBitsIdeal.τ Cert.KernelOfBitsIdeal.sig) → Buf (Elt Ideal) ℓ) (g : Dev Cert.KernelOfBitsIdeal.nD → PrngReg), Pre_KernelOfBitsIdeal_gate_finite m →
    θ_run (Cert.KernelOfBitsIdeal.defs (F := Ideal)) (onTc (τ := Cert.KernelOfBitsIdeal.τ) (Cert.KernelOfBitsIdeal.main (F := Ideal))) ⟨m, fun _ => 0, g⟩ (fun r => (∀ c : Dev Cert.KernelOfBitsIdeal.nD,
      r.2.mem ((c.tc : Thread Cert.KernelOfBitsIdeal.nD Cert.KernelOfBitsIdeal.τ).loc Cert.KernelOfBitsIdeal.main_arg0) = m ((c.tc : Thread Cert.KernelOfBitsIdeal.nD Cert.KernelOfBitsIdeal.τ).loc Cert.KernelOfBitsIdeal.main_arg0)
      ∧ r.2.mem ((c.tc : Thread Cert.KernelOfBitsIdeal.nD Cert.KernelOfBitsIdeal.τ).loc Cert.KernelOfBitsIdeal.main_arg1) = m ((c.tc : Thread Cert.KernelOfBitsIdeal.nD Cert.KernelOfBitsIdeal.τ).loc Cert.KernelOfBitsIdeal.main_arg1)
      ∧ r.2.mem ((c.tc : Thread Cert.KernelOfBitsIdeal.nD Cert.KernelOfBitsIdeal.τ).loc Cert.KernelOfBitsIdeal.main_arg2) = m ((c.tc : Thread Cert.KernelOfBitsIdeal.nD Cert.KernelOfBitsIdeal.τ).loc Cert.KernelOfBitsIdeal.main_arg2)
      ∧ r.2.mem ((c.tc : Thread Cert.KernelOfBitsIdeal.nD Cert.KernelOfBitsIdeal.τ).loc Cert.KernelOfBitsIdeal.main_arg3) = m ((c.tc : Thread Cert.KernelOfBitsIdeal.nD Cert.KernelOfBitsIdeal.τ).loc Cert.KernelOfBitsIdeal.main_arg3)
      ∧ r.2.mem ((c.tc : Thread Cert.KernelOfBitsIdeal.nD Cert.KernelOfBitsIdeal.τ).loc Cert.KernelOfBitsIdeal.main_arg4) = m ((c.tc : Thread Cert.KernelOfBitsIdeal.nD Cert.KernelOfBitsIdeal.τ).loc Cert.KernelOfBitsIdeal.main_arg4)
      ∧ r.2.mem ((c.tc : Thread Cert.KernelOfBitsIdeal.nD Cert.KernelOfBitsIdeal.τ).loc Cert.KernelOfBitsIdeal.main_arg5) = m ((c.tc : Thread Cert.KernelOfBitsIdeal.nD Cert.KernelOfBitsIdeal.τ).loc Cert.KernelOfBitsIdeal.main_arg5))
      ∧ r.2.sem = fun _ => 0)

def quiescent_ReferenceOfBitsIdeal [hReferenceOfBitsIdeal : Cert.ReferenceOfBitsIdeal.Facts] [hPre_gate_finite : Cert.Pre_gate_finite.Facts] : Prop :=
  ∀ (m : (ℓ : Loc Cert.ReferenceOfBitsIdeal.nD Cert.ReferenceOfBitsIdeal.τ Cert.ReferenceOfBitsIdeal.sig) → Buf (Elt Ideal) ℓ) (g : Dev Cert.ReferenceOfBitsIdeal.nD → PrngReg), Pre_ReferenceOfBitsIdeal m →
    θ_run (Cert.ReferenceOfBitsIdeal.defs (F := Ideal)) (onTc (τ := Cert.ReferenceOfBitsIdeal.τ) (Cert.ReferenceOfBitsIdeal.main (F := Ideal))) ⟨m, fun _ => 0, g⟩ (fun r => (∀ c : Dev Cert.ReferenceOfBitsIdeal.nD,
      r.2.mem ((c.tc : Thread Cert.ReferenceOfBitsIdeal.nD Cert.ReferenceOfBitsIdeal.τ).loc Cert.ReferenceOfBitsIdeal.main_arg0) = m ((c.tc : Thread Cert.ReferenceOfBitsIdeal.nD Cert.ReferenceOfBitsIdeal.τ).loc Cert.ReferenceOfBitsIdeal.main_arg0)
      ∧ r.2.mem ((c.tc : Thread Cert.ReferenceOfBitsIdeal.nD Cert.ReferenceOfBitsIdeal.τ).loc Cert.ReferenceOfBitsIdeal.main_arg1) = m ((c.tc : Thread Cert.ReferenceOfBitsIdeal.nD Cert.ReferenceOfBitsIdeal.τ).loc Cert.ReferenceOfBitsIdeal.main_arg1)
      ∧ r.2.mem ((c.tc : Thread Cert.ReferenceOfBitsIdeal.nD Cert.ReferenceOfBitsIdeal.τ).loc Cert.ReferenceOfBitsIdeal.main_arg2) = m ((c.tc : Thread Cert.ReferenceOfBitsIdeal.nD Cert.ReferenceOfBitsIdeal.τ).loc Cert.ReferenceOfBitsIdeal.main_arg2)
      ∧ r.2.mem ((c.tc : Thread Cert.ReferenceOfBitsIdeal.nD Cert.ReferenceOfBitsIdeal.τ).loc Cert.ReferenceOfBitsIdeal.main_arg3) = m ((c.tc : Thread Cert.ReferenceOfBitsIdeal.nD Cert.ReferenceOfBitsIdeal.τ).loc Cert.ReferenceOfBitsIdeal.main_arg3)
      ∧ r.2.mem ((c.tc : Thread Cert.ReferenceOfBitsIdeal.nD Cert.ReferenceOfBitsIdeal.τ).loc Cert.ReferenceOfBitsIdeal.main_arg4) = m ((c.tc : Thread Cert.ReferenceOfBitsIdeal.nD Cert.ReferenceOfBitsIdeal.τ).loc Cert.ReferenceOfBitsIdeal.main_arg4)
      ∧ r.2.mem ((c.tc : Thread Cert.ReferenceOfBitsIdeal.nD Cert.ReferenceOfBitsIdeal.τ).loc Cert.ReferenceOfBitsIdeal.main_arg5) = m ((c.tc : Thread Cert.ReferenceOfBitsIdeal.nD Cert.ReferenceOfBitsIdeal.τ).loc Cert.ReferenceOfBitsIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_KernelOfBits_KernelOfBitsIdeal : Prop :=
  True

def algebraic_KernelOfBitsIdeal_ReferenceOfBitsIdeal_pre_gate_finite [hKernelOfBitsIdeal : Cert.KernelOfBitsIdeal.Facts] [hReferenceOfBitsIdeal : Cert.ReferenceOfBitsIdeal.Facts] [hPre_gate_finite : Cert.Pre_gate_finite.Facts] : Prop :=
  ∀ (m : (ℓ : Loc Cert.KernelOfBitsIdeal.nD Cert.KernelOfBitsIdeal.τ Cert.KernelOfBitsIdeal.sig) → Buf (Elt Ideal) ℓ) (g : Dev Cert.KernelOfBitsIdeal.nD → PrngReg)
    (m' : (ℓ : Loc Cert.ReferenceOfBitsIdeal.nD Cert.ReferenceOfBitsIdeal.τ Cert.ReferenceOfBitsIdeal.sig) → Buf (Elt Ideal) ℓ) (g' : Dev Cert.ReferenceOfBitsIdeal.nD → PrngReg), Pre_KernelOfBitsIdeal_gate_finite m →
    (∀ c : Dev Cert.KernelOfBitsIdeal.nD,
      m' ((c.tc : Thread Cert.ReferenceOfBitsIdeal.nD Cert.ReferenceOfBitsIdeal.τ).loc Cert.ReferenceOfBitsIdeal.main_arg0) = m ((c.tc : Thread Cert.KernelOfBitsIdeal.nD Cert.KernelOfBitsIdeal.τ).loc Cert.KernelOfBitsIdeal.main_arg0)
      ∧ m' ((c.tc : Thread Cert.ReferenceOfBitsIdeal.nD Cert.ReferenceOfBitsIdeal.τ).loc Cert.ReferenceOfBitsIdeal.main_arg1) = m ((c.tc : Thread Cert.KernelOfBitsIdeal.nD Cert.KernelOfBitsIdeal.τ).loc Cert.KernelOfBitsIdeal.main_arg1)
      ∧ m' ((c.tc : Thread Cert.ReferenceOfBitsIdeal.nD Cert.ReferenceOfBitsIdeal.τ).loc Cert.ReferenceOfBitsIdeal.main_arg2) = m ((c.tc : Thread Cert.KernelOfBitsIdeal.nD Cert.KernelOfBitsIdeal.τ).loc Cert.KernelOfBitsIdeal.main_arg2)
      ∧ m' ((c.tc : Thread Cert.ReferenceOfBitsIdeal.nD Cert.ReferenceOfBitsIdeal.τ).loc Cert.ReferenceOfBitsIdeal.main_arg3) = m ((c.tc : Thread Cert.KernelOfBitsIdeal.nD Cert.KernelOfBitsIdeal.τ).loc Cert.KernelOfBitsIdeal.main_arg3)
      ∧ m' ((c.tc : Thread Cert.ReferenceOfBitsIdeal.nD Cert.ReferenceOfBitsIdeal.τ).loc Cert.ReferenceOfBitsIdeal.main_arg4) = m ((c.tc : Thread Cert.KernelOfBitsIdeal.nD Cert.KernelOfBitsIdeal.τ).loc Cert.KernelOfBitsIdeal.main_arg4)
      ∧ m' ((c.tc : Thread Cert.ReferenceOfBitsIdeal.nD Cert.ReferenceOfBitsIdeal.τ).loc Cert.ReferenceOfBitsIdeal.main_arg5) = m ((c.tc : Thread Cert.KernelOfBitsIdeal.nD Cert.KernelOfBitsIdeal.τ).loc Cert.KernelOfBitsIdeal.main_arg5)) →
    ∃ (v0 : (c : Dev Cert.KernelOfBitsIdeal.nD) → Buf (Elt Ideal) ((c.tc : Thread Cert.KernelOfBitsIdeal.nD Cert.KernelOfBitsIdeal.τ).loc Cert.KernelOfBitsIdeal.main_v8)),
      θ_run (Cert.KernelOfBitsIdeal.defs (F := Ideal)) (onTc (τ := Cert.KernelOfBitsIdeal.τ) (Cert.KernelOfBitsIdeal.main (F := Ideal))) ⟨m, fun _ => 0, g⟩ (fun r => ∀ c : Dev Cert.KernelOfBitsIdeal.nD,
          r.2.mem ((c.tc : Thread Cert.KernelOfBitsIdeal.nD Cert.KernelOfBitsIdeal.τ).loc Cert.KernelOfBitsIdeal.main_v8) = v0 c
          ∧ r.2.mem ((c.tc : Thread Cert.KernelOfBitsIdeal.nD Cert.KernelOfBitsIdeal.τ).loc Cert.KernelOfBitsIdeal.main_arg0) = m ((c.tc : Thread Cert.KernelOfBitsIdeal.nD Cert.KernelOfBitsIdeal.τ).loc Cert.KernelOfBitsIdeal.main_arg0)
          ∧ r.2.mem ((c.tc : Thread Cert.KernelOfBitsIdeal.nD Cert.KernelOfBitsIdeal.τ).loc Cert.KernelOfBitsIdeal.main_arg1) = m ((c.tc : Thread Cert.KernelOfBitsIdeal.nD Cert.KernelOfBitsIdeal.τ).loc Cert.KernelOfBitsIdeal.main_arg1)
          ∧ r.2.mem ((c.tc : Thread Cert.KernelOfBitsIdeal.nD Cert.KernelOfBitsIdeal.τ).loc Cert.KernelOfBitsIdeal.main_arg2) = m ((c.tc : Thread Cert.KernelOfBitsIdeal.nD Cert.KernelOfBitsIdeal.τ).loc Cert.KernelOfBitsIdeal.main_arg2)
          ∧ r.2.mem ((c.tc : Thread Cert.KernelOfBitsIdeal.nD Cert.KernelOfBitsIdeal.τ).loc Cert.KernelOfBitsIdeal.main_arg3) = m ((c.tc : Thread Cert.KernelOfBitsIdeal.nD Cert.KernelOfBitsIdeal.τ).loc Cert.KernelOfBitsIdeal.main_arg3)
          ∧ r.2.mem ((c.tc : Thread Cert.KernelOfBitsIdeal.nD Cert.KernelOfBitsIdeal.τ).loc Cert.KernelOfBitsIdeal.main_arg4) = m ((c.tc : Thread Cert.KernelOfBitsIdeal.nD Cert.KernelOfBitsIdeal.τ).loc Cert.KernelOfBitsIdeal.main_arg4)
          ∧ r.2.mem ((c.tc : Thread Cert.KernelOfBitsIdeal.nD Cert.KernelOfBitsIdeal.τ).loc Cert.KernelOfBitsIdeal.main_arg5) = m ((c.tc : Thread Cert.KernelOfBitsIdeal.nD Cert.KernelOfBitsIdeal.τ).loc Cert.KernelOfBitsIdeal.main_arg5))
      ∧ θ_run (Cert.ReferenceOfBitsIdeal.defs (F := Ideal)) (onTc (τ := Cert.ReferenceOfBitsIdeal.τ) (Cert.ReferenceOfBitsIdeal.main (F := Ideal))) ⟨m', fun _ => 0, g'⟩ (fun r => ∀ c : Dev Cert.ReferenceOfBitsIdeal.nD,
          r.2.mem ((c.tc : Thread Cert.ReferenceOfBitsIdeal.nD Cert.ReferenceOfBitsIdeal.τ).loc Cert.ReferenceOfBitsIdeal.main_v8) = v0 c
          ∧ r.2.mem ((c.tc : Thread Cert.ReferenceOfBitsIdeal.nD Cert.ReferenceOfBitsIdeal.τ).loc Cert.ReferenceOfBitsIdeal.main_arg0) = m' ((c.tc : Thread Cert.ReferenceOfBitsIdeal.nD Cert.ReferenceOfBitsIdeal.τ).loc Cert.ReferenceOfBitsIdeal.main_arg0)
          ∧ r.2.mem ((c.tc : Thread Cert.ReferenceOfBitsIdeal.nD Cert.ReferenceOfBitsIdeal.τ).loc Cert.ReferenceOfBitsIdeal.main_arg1) = m' ((c.tc : Thread Cert.ReferenceOfBitsIdeal.nD Cert.ReferenceOfBitsIdeal.τ).loc Cert.ReferenceOfBitsIdeal.main_arg1)
          ∧ r.2.mem ((c.tc : Thread Cert.ReferenceOfBitsIdeal.nD Cert.ReferenceOfBitsIdeal.τ).loc Cert.ReferenceOfBitsIdeal.main_arg2) = m' ((c.tc : Thread Cert.ReferenceOfBitsIdeal.nD Cert.ReferenceOfBitsIdeal.τ).loc Cert.ReferenceOfBitsIdeal.main_arg2)
          ∧ r.2.mem ((c.tc : Thread Cert.ReferenceOfBitsIdeal.nD Cert.ReferenceOfBitsIdeal.τ).loc Cert.ReferenceOfBitsIdeal.main_arg3) = m' ((c.tc : Thread Cert.ReferenceOfBitsIdeal.nD Cert.ReferenceOfBitsIdeal.τ).loc Cert.ReferenceOfBitsIdeal.main_arg3)
          ∧ r.2.mem ((c.tc : Thread Cert.ReferenceOfBitsIdeal.nD Cert.ReferenceOfBitsIdeal.τ).loc Cert.ReferenceOfBitsIdeal.main_arg4) = m' ((c.tc : Thread Cert.ReferenceOfBitsIdeal.nD Cert.ReferenceOfBitsIdeal.τ).loc Cert.ReferenceOfBitsIdeal.main_arg4)
          ∧ r.2.mem ((c.tc : Thread Cert.ReferenceOfBitsIdeal.nD Cert.ReferenceOfBitsIdeal.τ).loc Cert.ReferenceOfBitsIdeal.main_arg5) = m' ((c.tc : Thread Cert.ReferenceOfBitsIdeal.nD Cert.ReferenceOfBitsIdeal.τ).loc Cert.ReferenceOfBitsIdeal.main_arg5))

def Claim : Prop :=
  ∃ (hKernel : Cert.Kernel.Facts) (hKernelIdeal : Cert.KernelIdeal.Facts) (hReferenceIdeal : Cert.ReferenceIdeal.Facts) (hKernelOfBits : Cert.KernelOfBits.Facts) (hKernelOfBitsIdeal : Cert.KernelOfBitsIdeal.Facts) (hReferenceOfBitsIdeal : Cert.ReferenceOfBitsIdeal.Facts) (hPre_gate_finite : Cert.Pre_gate_finite.Facts),
    quiescent_Kernel (hKernel := hKernel)
    ∧ quiescent_KernelIdeal (hKernelIdeal := hKernelIdeal)
    ∧ quiescent_ReferenceIdeal (hReferenceIdeal := hReferenceIdeal)
    ∧ quiescent_KernelOfBits (hKernelOfBits := hKernelOfBits)
    ∧ quiescent_KernelOfBitsIdeal (hKernelOfBitsIdeal := hKernelOfBitsIdeal)
    ∧ quiescent_KernelOfBitsIdeal_pre_gate_finite (hKernelOfBitsIdeal := hKernelOfBitsIdeal) (hPre_gate_finite := hPre_gate_finite)
    ∧ quiescent_ReferenceOfBitsIdeal (hReferenceOfBitsIdeal := hReferenceOfBitsIdeal) (hPre_gate_finite := hPre_gate_finite)
    ∧ preserves_Kernel_KernelIdeal
    ∧ algebraic_KernelIdeal_ReferenceIdeal (hKernelIdeal := hKernelIdeal) (hReferenceIdeal := hReferenceIdeal)
    ∧ preserves_KernelOfBits_KernelOfBitsIdeal
    ∧ algebraic_KernelOfBitsIdeal_ReferenceOfBitsIdeal_pre_gate_finite (hKernelOfBitsIdeal := hKernelOfBitsIdeal) (hReferenceOfBitsIdeal := hReferenceOfBitsIdeal) (hPre_gate_finite := hPre_gate_finite)
-- ==== Pre_gate_finite.lean ====
abbrev S2x1536x2304 : Shape := ⟨3, ![2, 1536, 2304]⟩
abbrev S2x1536x1 : Shape := ⟨3, ![2, 1536, 1]⟩
abbrev S2304x5120 : Shape := ⟨2, ![2304, 5120]⟩
abbrev S5120 : Shape := ⟨1, ![5120]⟩
abbrev S_ : Shape := ⟨0, ![]⟩

class Facts : Prop where
  natLt_8_32 : 8 < 32
  bcast_S_S2x1536x2304 : S_.BroadcastsInDim S2x1536x2304 (![] : Fin 0 → Fin S2x1536x2304.rank)
  reducesTo_S2x1536x2304_S_d0_1_2 : S2x1536x2304.ReducesTo [0, 1, 2] S_
  h_S_ : 0 < S_.numel
  bcast_S_S2x1536x1 : S_.BroadcastsInDim S2x1536x1 (![] : Fin 0 → Fin S2x1536x1.rank)
  reducesTo_S2x1536x1_S_d0_1_2 : S2x1536x1.ReducesTo [0, 1, 2] S_
  bcast_S_S2304x5120 : S_.BroadcastsInDim S2304x5120 (![] : Fin 0 → Fin S2304x5120.rank)
  reducesTo_S2304x5120_S_d0_1 : S2304x5120.ReducesTo [0, 1] S_
  bcast_S_S5120 : S_.BroadcastsInDim S5120 (![] : Fin 0 → Fin S5120.rank)
  reducesTo_S5120_S_d0 : S5120.ReducesTo [0] S_

variable [Facts]

def fn_part1 {F : FTy → Type} [FloatOps F] (main_arg3 : FVec F S5120 .f32) (main_v10 : IVec S_ 1) (main_v15 : IVec S2304x5120 1) (main_c_5 : IVec S_ 1) : IVec S_ 1 :=
  let main_v16 : IVec S_ 1 := (fun x v => Host.reduce IntOp.andi x v reducesTo_S2304x5120_S_d0_1 h_S_) main_v15 main_c_5
  let main_v17 : IVec S_ 1 := andi main_v10 main_v16
  let main_v18 : FVec F S5120 .f32 := Host.absf main_arg3
  let main_cst_6 : FVec F S_ .f32 := constant S_ .f32 0x7F800000#32
  let main_v19 : FVec F S5120 .f32 := broadcastInDim S5120 ![] bcast_S_S5120 main_cst_6
  let main_v20 : IVec S5120 1 := cmpf .olt main_v18 main_v19
  let main_c_7 : IVec S_ 1 := constantI S_ 1 1#1
  let main_v21 : IVec S_ 1 := (fun x v => Host.reduce IntOp.andi x v reducesTo_S5120_S_d0 h_S_) main_v20 main_c_7
  let main_v22 : IVec S_ 1 := andi main_v17 main_v21
  main_v22

def fn {F : FTy → Type} [FloatOps F] (main_arg0 : IVec S2x1536x2304 8) (main_arg1 : FVec F S2x1536x1 .f32) (main_arg2 : IVec S2304x5120 8) (main_arg3 : FVec F S5120 .f32) (main_arg4 : IVec S2304x5120 8) (main_arg5 : FVec F S5120 .f32) : IVec S_ 1 :=
  let main_v0 : IVec S2x1536x2304 32 := (extui 32 · natLt_8_32) main_arg0
  let main_c : IVec S_ 32 := constantI S_ 32 127#32
  let main_v1 : IVec S2x1536x2304 32 := broadcastInDim S2x1536x2304 ![] bcast_S_S2x1536x2304 main_c
  let main_v2 : IVec S2x1536x2304 32 := andi main_v0 main_v1
  let main_c_0 : IVec S_ 32 := constantI S_ 32 127#32
  let main_v3 : IVec S2x1536x2304 32 := broadcastInDim S2x1536x2304 ![] bcast_S_S2x1536x2304 main_c_0
  let main_v4 : IVec S2x1536x2304 1 := cmpi .ne main_v2 main_v3
  let main_c_1 : IVec S_ 1 := constantI S_ 1 1#1
  let main_v5 : IVec S_ 1 := (fun x v => Host.reduce IntOp.andi x v reducesTo_S2x1536x2304_S_d0_1_2 h_S_) main_v4 main_c_1
  let main_v6 : FVec F S2x1536x1 .f32 := Host.absf main_arg1
  let main_cst : FVec F S_ .f32 := constant S_ .f32 0x7F800000#32
  let main_v7 : FVec F S2x1536x1 .f32 := broadcastInDim S2x1536x1 ![] bcast_S_S2x1536x1 main_cst
  let main_v8 : IVec S2x1536x1 1 := cmpf .olt main_v6 main_v7
  let main_c_2 : IVec S_ 1 := constantI S_ 1 1#1
  let main_v9 : IVec S_ 1 := (fun x v => Host.reduce IntOp.andi x v reducesTo_S2x1536x1_S_d0_1_2 h_S_) main_v8 main_c_2
  let main_v10 : IVec S_ 1 := andi main_v5 main_v9
  let main_v11 : IVec S2304x5120 32 := (extui 32 · natLt_8_32) main_arg2
  let main_c_3 : IVec S_ 32 := constantI S_ 32 127#32
  let main_v12 : IVec S2304x5120 32 := broadcastInDim S2304x5120 ![] bcast_S_S2304x5120 main_c_3
  let main_v13 : IVec S2304x5120 32 := andi main_v11 main_v12
  let main_c_4 : IVec S_ 32 := constantI S_ 32 127#32
  let main_v14 : IVec S2304x5120 32 := broadcastInDim S2304x5120 ![] bcast_S_S2304x5120 main_c_4
  let main_v15 : IVec S2304x5120 1 := cmpi .ne main_v13 main_v14
  let main_c_5 : IVec S_ 1 := constantI S_ 1 1#1
  fn_part1 (F := F) main_arg3 main_v10 main_v15 main_c_5
-- ==== Kernel.lean ====
abbrev S2x1536x2304 : Shape := ⟨3, ![2, 1536, 2304]⟩
abbrev S2x1536x1 : Shape := ⟨3, ![2, 1536, 1]⟩
abbrev S2304x5120 : Shape := ⟨2, ![2304, 5120]⟩
abbrev S5120 : Shape := ⟨1, ![5120]⟩
abbrev S3072x2304 : Shape := ⟨2, ![3072, 2304]⟩
abbrev S3072x1 : Shape := ⟨2, ![3072, 1]⟩
abbrev S1x5120 : Shape := ⟨2, ![1, 5120]⟩
abbrev S3072x5120 : Shape := ⟨2, ![3072, 5120]⟩
abbrev S2304x512 : Shape := ⟨2, ![2304, 512]⟩
abbrev S1x512 : Shape := ⟨2, ![1, 512]⟩
abbrev S3072x512 : Shape := ⟨2, ![3072, 512]⟩
abbrev S512x2304 : Shape := ⟨2, ![512, 2304]⟩
abbrev S512x1 : Shape := ⟨2, ![512, 1]⟩
abbrev S512x512 : Shape := ⟨2, ![512, 512]⟩
abbrev S2x1536x5120 : Shape := ⟨3, ![2, 1536, 5120]⟩

abbrev nBuf : Space → Nat
  | .hbm => 12
  | .vmem => 12
  | .smem => 0
  | _ => 0

abbrev bufTy : (tb : Table) → Fin (tcTables nBuf tb) → BufTy
  | .hbm, ⟨0, _⟩ => ⟨S2x1536x2304, .fp8e4m3⟩
  | .hbm, ⟨1, _⟩ => ⟨S2x1536x1, .f32⟩
  | .hbm, ⟨2, _⟩ => ⟨S2304x5120, .fp8e4m3⟩
  | .hbm, ⟨3, _⟩ => ⟨S5120, .f32⟩
  | .hbm, ⟨4, _⟩ => ⟨S2304x5120, .fp8e4m3⟩
  | .hbm, ⟨5, _⟩ => ⟨S5120, .f32⟩
  | .hbm, ⟨6, _⟩ => ⟨S3072x2304, .fp8e4m3⟩
  | .hbm, ⟨7, _⟩ => ⟨S3072x1, .f32⟩
  | .hbm, ⟨8, _⟩ => ⟨S1x5120, .f32⟩
  | .hbm, ⟨9, _⟩ => ⟨S1x5120, .f32⟩
  | .hbm, ⟨10, _⟩ => ⟨S3072x5120, .bf16⟩
  | .hbm, ⟨11, _⟩ => ⟨S2x1536x5120, .bf16⟩
  | .local _ .vmem, ⟨0, _⟩ => ⟨S3072x2304, .fp8e4m3⟩
  | .local _ .vmem, ⟨1, _⟩ => ⟨S3072x1, .f32⟩
  | .local _ .vmem, ⟨2, _⟩ => ⟨S2304x512, .fp8e4m3⟩
  | .local _ .vmem, ⟨3, _⟩ => ⟨S2304x512, .fp8e4m3⟩
  | .local _ .vmem, ⟨4, _⟩ => ⟨S1x512, .f32⟩
  | .local _ .vmem, ⟨5, _⟩ => ⟨S1x512, .f32⟩
  | .local _ .vmem, ⟨6, _⟩ => ⟨S2304x512, .fp8e4m3⟩
  | .local _ .vmem, ⟨7, _⟩ => ⟨S2304x512, .fp8e4m3⟩
  | .local _ .vmem, ⟨8, _⟩ => ⟨S1x512, .f32⟩
  | .local _ .vmem, ⟨9, _⟩ => ⟨S1x512, .f32⟩
  | .local _ .vmem, ⟨10, _⟩ => ⟨S3072x512, .bf16⟩
  | .local _ .vmem, ⟨11, _⟩ => ⟨S3072x512, .bf16⟩
  | _, _ => ⟨S2x1536x2304, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S3072x2304 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S3072x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2304x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2304x512 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S3072x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S2x1536x2304 : Shape := ⟨3, ![2, 1536, 2304]⟩
abbrev S2x1536x1 : Shape := ⟨3, ![2, 1536, 1]⟩
abbrev S2304x5120 : Shape := ⟨2, ![2304, 5120]⟩
abbrev S5120 : Shape := ⟨1, ![5120]⟩
abbrev S3072x2304 : Shape := ⟨2, ![3072, 2304]⟩
abbrev S3072x1 : Shape := ⟨2, ![3072, 1]⟩
abbrev S1x5120 : Shape := ⟨2, ![1, 5120]⟩
abbrev S3072x5120 : Shape := ⟨2, ![3072, 5120]⟩
abbrev S2x1536x5120 : Shape := ⟨3, ![2, 1536, 5120]⟩

abbrev nBuf : Space → Nat
  | .hbm => 12
  | .vmem => 7
  | .smem => 0
  | _ => 0

abbrev bufTy : (tb : Table) → Fin (tcTables nBuf tb) → BufTy
  | .hbm, ⟨0, _⟩ => ⟨S2x1536x2304, .fp8e4m3⟩
  | .hbm, ⟨1, _⟩ => ⟨S2x1536x1, .f32⟩
  | .hbm, ⟨2, _⟩ => ⟨S2304x5120, .fp8e4m3⟩
  | .hbm, ⟨3, _⟩ => ⟨S5120, .f32⟩
  | .hbm, ⟨4, _⟩ => ⟨S2304x5120, .fp8e4m3⟩
  | .hbm, ⟨5, _⟩ => ⟨S5120, .f32⟩
  | .hbm, ⟨6, _⟩ => ⟨S3072x2304, .fp8e4m3⟩
  | .hbm, ⟨7, _⟩ => ⟨S3072x1, .f32⟩
  | .hbm, ⟨8, _⟩ => ⟨S1x5120, .f32⟩
  | .hbm, ⟨9, _⟩ => ⟨S1x5120, .f32⟩
  | .hbm, ⟨10, _⟩ => ⟨S3072x5120, .bf16⟩
  | .hbm, ⟨11, _⟩ => ⟨S2x1536x5120, .bf16⟩
  | .local _ .vmem, ⟨0, _⟩ => ⟨S3072x2304, .fp8e4m3⟩
  | .local _ .vmem, ⟨1, _⟩ => ⟨S3072x1, .f32⟩
  | .local _ .vmem, ⟨2, _⟩ => ⟨S2304x5120, .fp8e4m3⟩
  | .local _ .vmem, ⟨3, _⟩ => ⟨S1x5120, .f32⟩
  | .local _ .vmem, ⟨4, _⟩ => ⟨S2304x5120, .fp8e4m3⟩
  | .local _ .vmem, ⟨5, _⟩ => ⟨S1x5120, .f32⟩
  | .local _ .vmem, ⟨6, _⟩ => ⟨S3072x5120, .bf16⟩
  | _, _ => ⟨S2x1536x2304, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S3072x2304 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3072x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2304x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2304x5120 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x5120 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3072x5120 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== KernelOfBits.lean ====
abbrev S2x1536x2304 : Shape := ⟨3, ![2, 1536, 2304]⟩
abbrev S2x1536x1 : Shape := ⟨3, ![2, 1536, 1]⟩
abbrev S2304x5120 : Shape := ⟨2, ![2304, 5120]⟩
abbrev S5120 : Shape := ⟨1, ![5120]⟩
abbrev S3072x2304 : Shape := ⟨2, ![3072, 2304]⟩
abbrev S3072x1 : Shape := ⟨2, ![3072, 1]⟩
abbrev S1x5120 : Shape := ⟨2, ![1, 5120]⟩
abbrev S3072x5120 : Shape := ⟨2, ![3072, 5120]⟩
abbrev S2304x512 : Shape := ⟨2, ![2304, 512]⟩
abbrev S1x512 : Shape := ⟨2, ![1, 512]⟩
abbrev S3072x512 : Shape := ⟨2, ![3072, 512]⟩
abbrev S512x2304 : Shape := ⟨2, ![512, 2304]⟩
abbrev S512x1 : Shape := ⟨2, ![512, 1]⟩
abbrev S512x512 : Shape := ⟨2, ![512, 512]⟩
abbrev S2x1536x5120 : Shape := ⟨3, ![2, 1536, 5120]⟩

abbrev nBuf : Space → Nat
  | .hbm => 15
  | .vmem => 12
  | .smem => 0
  | _ => 0

abbrev bufTy : (tb : Table) → Fin (tcTables nBuf tb) → BufTy
  | .hbm, ⟨0, _⟩ => ⟨S2x1536x2304, .i8⟩
  | .hbm, ⟨1, _⟩ => ⟨S2x1536x1, .f32⟩
  | .hbm, ⟨2, _⟩ => ⟨S2304x5120, .i8⟩
  | .hbm, ⟨3, _⟩ => ⟨S5120, .f32⟩
  | .hbm, ⟨4, _⟩ => ⟨S2304x5120, .i8⟩
  | .hbm, ⟨5, _⟩ => ⟨S5120, .f32⟩
  | .hbm, ⟨6, _⟩ => ⟨S2x1536x2304, .fp8e4m3⟩
  | .hbm, ⟨7, _⟩ => ⟨S2304x5120, .fp8e4m3⟩
  | .hbm, ⟨8, _⟩ => ⟨S2304x5120, .fp8e4m3⟩
  | .hbm, ⟨9, _⟩ => ⟨S3072x2304, .fp8e4m3⟩
  | .hbm, ⟨10, _⟩ => ⟨S3072x1, .f32⟩
  | .hbm, ⟨11, _⟩ => ⟨S1x5120, .f32⟩
  | .hbm, ⟨12, _⟩ => ⟨S1x5120, .f32⟩
  | .hbm, ⟨13, _⟩ => ⟨S3072x5120, .bf16⟩
  | .hbm, ⟨14, _⟩ => ⟨S2x1536x5120, .bf16⟩
  | .local _ .vmem, ⟨0, _⟩ => ⟨S3072x2304, .fp8e4m3⟩
  | .local _ .vmem, ⟨1, _⟩ => ⟨S3072x1, .f32⟩
  | .local _ .vmem, ⟨2, _⟩ => ⟨S2304x512, .fp8e4m3⟩
  | .local _ .vmem, ⟨3, _⟩ => ⟨S2304x512, .fp8e4m3⟩
  | .local _ .vmem, ⟨4, _⟩ => ⟨S1x512, .f32⟩
  | .local _ .vmem, ⟨5, _⟩ => ⟨S1x512, .f32⟩
  | .local _ .vmem, ⟨6, _⟩ => ⟨S2304x512, .fp8e4m3⟩
  | .local _ .vmem, ⟨7, _⟩ => ⟨S2304x512, .fp8e4m3⟩
  | .local _ .vmem, ⟨8, _⟩ => ⟨S1x512, .f32⟩
  | .local _ .vmem, ⟨9, _⟩ => ⟨S1x512, .f32⟩
  | .local _ .vmem, ⟨10, _⟩ => ⟨S3072x512, .bf16⟩
  | .local _ .vmem, ⟨11, _⟩ => ⟨S3072x512, .bf16⟩
  | _, _ => ⟨S2x1536x2304, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S3072x2304 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S3072x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2304x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2304x512 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S3072x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceOfBitsIdeal.lean ====
abbrev S2x1536x2304 : Shape := ⟨3, ![2, 1536, 2304]⟩
abbrev S2x1536x1 : Shape := ⟨3, ![2, 1536, 1]⟩
abbrev S2304x5120 : Shape := ⟨2, ![2304, 5120]⟩
abbrev S5120 : Shape := ⟨1, ![5120]⟩
abbrev S3072x2304 : Shape := ⟨2, ![3072, 2304]⟩
abbrev S3072x1 : Shape := ⟨2, ![3072, 1]⟩
abbrev S1x5120 : Shape := ⟨2, ![1, 5120]⟩
abbrev S3072x5120 : Shape := ⟨2, ![3072, 5120]⟩
abbrev S2x1536x5120 : Shape := ⟨3, ![2, 1536, 5120]⟩

abbrev nBuf : Space → Nat
  | .hbm => 15
  | .vmem => 7
  | .smem => 0
  | _ => 0

abbrev bufTy : (tb : Table) → Fin (tcTables nBuf tb) → BufTy
  | .hbm, ⟨0, _⟩ => ⟨S2x1536x2304, .i8⟩
  | .hbm, ⟨1, _⟩ => ⟨S2x1536x1, .f32⟩
  | .hbm, ⟨2, _⟩ => ⟨S2304x5120, .i8⟩
  | .hbm, ⟨3, _⟩ => ⟨S5120, .f32⟩
  | .hbm, ⟨4, _⟩ => ⟨S2304x5120, .i8⟩
  | .hbm, ⟨5, _⟩ => ⟨S5120, .f32⟩
  | .hbm, ⟨6, _⟩ => ⟨S2x1536x2304, .fp8e4m3⟩
  | .hbm, ⟨7, _⟩ => ⟨S2304x5120, .fp8e4m3⟩
  | .hbm, ⟨8, _⟩ => ⟨S2304x5120, .fp8e4m3⟩
  | .hbm, ⟨9, _⟩ => ⟨S3072x2304, .fp8e4m3⟩
  | .hbm, ⟨10, _⟩ => ⟨S3072x1, .f32⟩
  | .hbm, ⟨11, _⟩ => ⟨S1x5120, .f32⟩
  | .hbm, ⟨12, _⟩ => ⟨S1x5120, .f32⟩
  | .hbm, ⟨13, _⟩ => ⟨S3072x5120, .bf16⟩
  | .hbm, ⟨14, _⟩ => ⟨S2x1536x5120, .bf16⟩
  | .local _ .vmem, ⟨0, _⟩ => ⟨S3072x2304, .fp8e4m3⟩
  | .local _ .vmem, ⟨1, _⟩ => ⟨S3072x1, .f32⟩
  | .local _ .vmem, ⟨2, _⟩ => ⟨S2304x5120, .fp8e4m3⟩
  | .local _ .vmem, ⟨3, _⟩ => ⟨S1x5120, .f32⟩
  | .local _ .vmem, ⟨4, _⟩ => ⟨S2304x5120, .fp8e4m3⟩
  | .local _ .vmem, ⟨5, _⟩ => ⟨S1x5120, .f32⟩
  | .local _ .vmem, ⟨6, _⟩ => ⟨S3072x5120, .bf16⟩
  | _, _ => ⟨S2x1536x2304, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S3072x2304 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3072x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2304x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2304x5120 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x5120 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3072x5120 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Silu.lean ====
/- Hand-written, untrusted: THE SILU IDENTITY over the extended reals, the one step of real mathematics between the kernel
   and its references. The kernel takes `silu g` as `h * tanh h + h` at `h = g / 2`; the references as `g * logistic g`,
   which is `g / (1 + exp (-g))`. They agree at every real and at `+∞`. At `-∞` the first is `-∞` and the second is the
   indeterminate `-∞ * 0`, which the extended reals read as `0`: hence the hypothesis `g ≠ ⊥` of `halfTanh_eq`, and hence
   the case the guarded form `siluOrBot` sets apart (`halfTanh_eq_guarded`). -/
module

public import Idealize.ShloMosaic.PureOps.Ideal
public import Idealize.ShloMosaic.PureOps.Ideal.Laws
public import Idealize.ShloMosaic.Lib.ValueIdx

@[expose] public section

noncomputable section

namespace Cert.Proof.Silu

open Idealize.ShloMosaic

/-- The constant the kernel halves by. -/
abbrev half : EReal := Ideal.ofBits .f32 0x3F000000#32

/-- The constant the guarded reference compares with. -/
abbrev negInf : EReal := Ideal.ofBits .f32 0xFF800000#32

/-- The bit pattern of the halving constant denotes one half. -/
theorem half_eq : half = ((1 / 2 : ℝ) : EReal) := by
  simp [half, Ideal.ofBits, Ideal.ieee, -EReal.coe_mul]; norm_num

/-- The bit pattern compared with denotes `-∞`. -/
theorem negInf_eq : negInf = ⊥ := by
  simp [negInf, Ideal.ofBits, Ideal.ieee]

/-- The kernel's form of silu. -/
def halfTanh (g : EReal) : EReal := half * g * Ideal.tanh (half * g) + half * g

/-- The textbook form of silu. -/
def silu (g : EReal) : EReal := g * Ideal.logistic g

/-- The textbook form with its one indeterminate point, `-∞`, set to `-∞`. -/
def siluOrBot (g : EReal) : EReal := if g = negInf then g else silu g

/-- Over the reals: `(x/2) tanh (x/2) + x/2 = x / (1 + exp (-x))`. -/
theorem real_identity (x : ℝ) :
    1 / 2 * x * Real.tanh (1 / 2 * x) + 1 / 2 * x = x * (1 + Real.exp (-x))⁻¹ := by
  have hx : Real.exp (-x) = Real.exp (-(1 / 2 * x)) * Real.exp (-(1 / 2 * x)) := by
    rw [← Real.exp_add]; congr 1; ring
  have hp := Real.exp_pos (1 / 2 * x)
  have hm := Real.exp_pos (-(1 / 2 * x))
  have h1 : Real.exp (1 / 2 * x) * Real.exp (-(1 / 2 * x)) = 1 := by
    rw [← Real.exp_add]; simp
  rw [Real.tanh_eq_sinh_div_cosh, Real.sinh_eq, Real.cosh_eq, hx]
  generalize Real.exp (1 / 2 * x) = a at *
  generalize Real.exp (-(1 / 2 * x)) = b at *
  have hab : a + b ≠ 0 := by positivity
  have hbb : 1 + b * b ≠ 0 := by positivity
  field_simp
  linear_combination 2 * x * b * h1

/-- Off `-∞` the kernel's form of silu is the textbook's. -/
theorem halfTanh_eq {g : EReal} (hg : g ≠ ⊥) : halfTanh g = silu g := by
  unfold halfTanh silu
  rw [half_eq]
  induction g with
  | bot => exact absurd rfl hg
  | top =>
    rw [EReal.coe_mul_top_of_pos (by norm_num), Ideal.tanh_top, Ideal.logistic_top, mul_one, EReal.top_add_top]
  | coe x =>
    rw [← EReal.coe_mul, Ideal.tanh_coe, Ideal.logistic_coe, ← EReal.coe_mul, ← EReal.coe_add, ← EReal.coe_mul,
      real_identity]

/-- At `-∞` the kernel's form of silu is `-∞`. -/
theorem halfTanh_bot : halfTanh ⊥ = ⊥ := by
  unfold halfTanh
  rw [half_eq, EReal.coe_mul_bot_of_pos (by norm_num), EReal.add_bot]

/-- Everywhere the kernel's form of silu is the guarded textbook form. -/
theorem halfTanh_eq_guarded (g : EReal) : halfTanh g = siluOrBot g := by
  unfold siluOrBot
  rw [negInf_eq]
  by_cases hg : g = ⊥
  · subst hg
    rw [halfTanh_bot, if_pos rfl]
  · rw [halfTanh_eq hg, if_neg hg]

end Cert.Proof.Silu

end
-- ==== Proof.Formula.lean ====
/- Hand-written, untrusted: WHAT BOTH PROGRAMS COMPUTE, as one formula over matrices of any number of rows and columns:
   `fused silu x xs wg gs wu us` at row `r`, column `c` is `silu (gate r c) * up r c`, where `gate` and `up` are the matrix
   products `x·wg` and `x·wu` scaled by the row's scale and the column's. A block of rows or columns of it is the same
   formula of that block of rows of `x`, `xs` and that block of columns of the weights and their scales (`fused_block`),
   which is what lets the kernel work tile by tile. -/
module

public import proofs.«01_k».proof.Proof.Silu

@[expose] public section

noncomputable section

namespace Cert.Proof.Formula

open Idealize.ShloMosaic Idealize.ShloMosaic.ValueIdx
open scoped BigOperators

/-- Row `r`, column `c` of the product of `x` and `w` over the 2304 contracted positions, scaled by the row's scale and
    then by the column's. -/
def scaled {M N : ℕ} (x : FVec Ideal ⟨2, ![M, 2304]⟩ .fp8e4m3) (xs : FVec Ideal ⟨2, ![M, 1]⟩ .f32)
    (w : FVec Ideal ⟨2, ![2304, N]⟩ .fp8e4m3) (s : FVec Ideal ⟨2, ![1, N]⟩ .f32) (r : Fin M) (c : Fin N) : EReal :=
  (∑ k : Fin 2304, (x (ix2 r k) : EReal) * w (ix2 k c)) * xs (ix2 r 0) * s (ix2 0 c)

/-- `silu (gate) * up` at every row and column, for whatever form of silu. -/
def fused {M N : ℕ} (silu : EReal → EReal) (x : FVec Ideal ⟨2, ![M, 2304]⟩ .fp8e4m3) (xs : FVec Ideal ⟨2, ![M, 1]⟩ .f32)
    (wg : FVec Ideal ⟨2, ![2304, N]⟩ .fp8e4m3) (gs : FVec Ideal ⟨2, ![1, N]⟩ .f32)
    (wu : FVec Ideal ⟨2, ![2304, N]⟩ .fp8e4m3) (us : FVec Ideal ⟨2, ![1, N]⟩ .f32) : FVec Ideal ⟨2, ![M, N]⟩ .bf16 :=
  fun j => silu (scaled x xs wg gs (j 0) (j 1)) * scaled x xs wu us (j 0) (j 1)

/-- A scaled product reads one row of `x` and `xs` and one column of `w` and `s`: where those agree, so do the products. -/
theorem scaled_congr {M N M' N' : ℕ} {x : FVec Ideal ⟨2, ![M, 2304]⟩ .fp8e4m3} {xs : FVec Ideal ⟨2, ![M, 1]⟩ .f32}
    {w : FVec Ideal ⟨2, ![2304, N]⟩ .fp8e4m3} {s : FVec Ideal ⟨2, ![1, N]⟩ .f32}
    {x' : FVec Ideal ⟨2, ![M', 2304]⟩ .fp8e4m3} {xs' : FVec Ideal ⟨2, ![M', 1]⟩ .f32}
    {w' : FVec Ideal ⟨2, ![2304, N']⟩ .fp8e4m3} {s' : FVec Ideal ⟨2, ![1, N']⟩ .f32}
    {r : Fin M} {c : Fin N} {r' : Fin M'} {c' : Fin N'}
    (hx : ∀ k, x (ix2 r k) = x' (ix2 r' k)) (hxs : xs (ix2 r 0) = xs' (ix2 r' 0))
    (hw : ∀ k, w (ix2 k c) = w' (ix2 k c')) (hs : s (ix2 0 c) = s' (ix2 0 c')) :
    scaled x xs w s r c = scaled x' xs' w' s' r' c' := by
  unfold scaled
  rw [hxs, hs]
  simp only [hx, hw]

/-- The formula at row `r`, column `c` of a block is the formula at the row and column of the whole matrices that the
    block's row and column are. -/
theorem fused_block {M N M' N' : ℕ} (silu : EReal → EReal)
    {x : FVec Ideal ⟨2, ![M, 2304]⟩ .fp8e4m3} {xs : FVec Ideal ⟨2, ![M, 1]⟩ .f32}
    {wg : FVec Ideal ⟨2, ![2304, N]⟩ .fp8e4m3} {gs : FVec Ideal ⟨2, ![1, N]⟩ .f32}
    {wu : FVec Ideal ⟨2, ![2304, N]⟩ .fp8e4m3} {us : FVec Ideal ⟨2, ![1, N]⟩ .f32}
    {x' : FVec Ideal ⟨2, ![M', 2304]⟩ .fp8e4m3} {xs' : FVec Ideal ⟨2, ![M', 1]⟩ .f32}
    {wg' : FVec Ideal ⟨2, ![2304, N']⟩ .fp8e4m3} {gs' : FVec Ideal ⟨2, ![1, N']⟩ .f32}
    {wu' : FVec Ideal ⟨2, ![2304, N']⟩ .fp8e4m3} {us' : FVec Ideal ⟨2, ![1, N']⟩ .f32}
    {j : (⟨2, ![M, N]⟩ : Shape).Idx} {j' : (⟨2, ![M', N']⟩ : Shape).Idx}
    (hx : ∀ k, x (ix2 (j 0) k) = x' (ix2 (j' 0) k)) (hxs : xs (ix2 (j 0) 0) = xs' (ix2 (j' 0) 0))
    (hwg : ∀ k, wg (ix2 k (j 1)) = wg' (ix2 k (j' 1))) (hgs : gs (ix2 0 (j 1)) = gs' (ix2 0 (j' 1)))
    (hwu : ∀ k, wu (ix2 k (j 1)) = wu' (ix2 k (j' 1))) (hus : us (ix2 0 (j 1)) = us' (ix2 0 (j' 1))) :
    fused silu x xs wg gs wu us j = fused silu x' xs' wg' gs' wu' us' j' := by
  unfold fused
  rw [scaled_congr hx hxs hwg hgs, scaled_congr hx hxs hwu hus]

/-- Two forms of silu that agree at every gate give one result. -/
theorem fused_silu_congr {M N : ℕ} {f g : EReal → EReal} (x : FVec Ideal ⟨2, ![M, 2304]⟩ .fp8e4m3)
    (xs : FVec Ideal ⟨2, ![M, 1]⟩ .f32) (wg : FVec Ideal ⟨2, ![2304, N]⟩ .fp8e4m3) (gs : FVec Ideal ⟨2, ![1, N]⟩ .f32)
    (wu : FVec Ideal ⟨2, ![2304, N]⟩ .fp8e4m3) (us : FVec Ideal ⟨2, ![1, N]⟩ .f32)
    (h : ∀ r c, f (scaled x xs wg gs r c) = g (scaled x xs wg gs r c)) :
    fused f x xs wg gs wu us = fused g x xs wg gs wu us := by
  funext j
  exact congrArg (fun z : EReal => z * scaled x xs wu us (j 0) (j 1)) (h (j 0) (j 1))

end Cert.Proof.Formula

end
-- ==== Proof.Block.lean ====
/- Hand-written, untrusted: WHAT THE KERNEL LEAVES IN ONE OUTPUT TILE. The body stores six chunks of 512 rows; each chunk's
   payload is one and the same tower of vector operations over that chunk's rows (`k0_pay3`, to which the printed parts
   reduce), and that tower is the formula of Formula.lean (`chunk_eq`). Six chunks of rows make the formula of the whole
   tile (`out_eq`). -/
module

public import proofs.«01_k».proof.Proof.Formula
public import proofs.«01_k».proof.Proof.Gen.KernelIdeal.Frame
public import Idealize.ShloMosaic.Lib.Pipeline.Value
public import Idealize.ShloMosaic.Lib.Pointwise

@[expose] public section

noncomputable section

namespace Cert.Proof.Block

open Cert.KernelIdeal Cert.KernelIdeal.Gen Cert.Proof.Formula Cert.Proof.Silu
open Idealize.ShloMosaic Idealize.ShloMosaic.TcCoe Idealize.SL.Sem Idealize.ShloMosaic.ValueIdx

set_option maxRecDepth 16384 in
/-- One chunk's payload is the formula over the chunk's rows, with the kernel's form of silu. -/
theorem chunk_eq (gs us : Vec Ideal S1x512 .f32) (x : Vec Ideal S512x2304 .fp8e4m3) (xs : Vec Ideal S512x1 .f32)
    (wg wu : Vec Ideal S2304x512 .fp8e4m3) :
    k0_pay3 gs us x xs wg wu = fused halfTanh x xs wg gs wu us := by
  funext j
  pointwise [k0_pay3, k0_pay1, k0_pay2]
  rfl

/-- The origin, written two ways. -/
theorem hz : (![0, 0] : Fin 2 → Nat) = fun _ => 0 := funext fun a => by fin_cases a <;> rfl

variable (x : Vec Ideal S3072x2304 .fp8e4m3) (xs : Vec Ideal S3072x1 .f32) (wg : Vec Ideal S2304x512 .fp8e4m3)
  (gs : Vec Ideal S1x512 .f32) (wu : Vec Ideal S2304x512 .fp8e4m3) (us : Vec Ideal S1x512 .f32)

/-- A chunk of 512 rows starting at row `a`, computed from those rows of `x` and `xs`, is those rows of the whole tile's
    formula. -/
theorem chunk_at (a : ℕ) (hx : ∀ i, (![a, 0] : Fin 2 → ℕ) i + S512x2304.size i ≤ S3072x2304.size i)
    (hs : ∀ i, (![a, 0] : Fin 2 → ℕ) i + S512x1.size i ≤ S3072x1.size i)
    (ho : ∀ i, (![a, 0] : Fin 2 → ℕ) i + S512x512.size i ≤ S3072x512.size i) (j : S512x512.Idx) :
    k0_pay3 (View.ld gs r0_0) (View.ld us r0_0) (View.ld x (Rect.unit (s := S3072x2304) ![a, 0] S512x2304.size hx))
        (View.ld xs (Rect.unit (s := S3072x1) ![a, 0] S512x1.size hs)) (View.ld wg r0_3) (View.ld wu r0_3) j
      = fused halfTanh x xs wg gs wu us ((Rect.unit (s := S3072x512) ![a, 0] S512x512.size ho).emb j) := by
  rw [chunk_eq, View.ld_unit_zero hz, View.ld_unit_zero hz, View.ld_unit_zero hz, View.ld_unit_zero hz]
  refine fused_block halfTanh (fun k => congrArg x ?_) (congrArg xs ?_) (fun k => congrArg wg ?_) (congrArg gs ?_)
    (fun k => congrArg wu ?_) (congrArg us ?_)
  all_goals
    funext b; apply Fin.ext
    match b with
    | ⟨0, _⟩ => simp [Rect.unit, Rect.emb]
    | ⟨1, _⟩ => simp [Rect.unit, Rect.emb]

/-- The six chunks are the formula of the whole tile. -/
theorem out_eq : out0_6 x xs wg gs wu us = fused halfTanh x xs wg gs wu us := by
  funext y
  unfold out0_6 k0_pay15 k0_pay16
  refine View.canon_apply_of_pieces (Val := Elt Ideal) (fused halfTanh x xs wg gs wu us) _ ?_ y (cover0_6 _ _ _ _ _ _ y)
  intro p hp
  simp only [List.mem_cons, List.mem_nil_iff, or_false] at hp
  rcases hp with rfl | rfl | rfl | rfl | rfl | rfl
  · exact chunk_at x xs wg gs wu us 2560 _ _ inb_S3072x512_S512x512_2560_0
  · exact chunk_at x xs wg gs wu us 2048 _ _ inb_S3072x512_S512x512_2048_0
  · exact chunk_at x xs wg gs wu us 1536 _ _ inb_S3072x512_S512x512_1536_0
  · exact chunk_at x xs wg gs wu us 1024 _ _ inb_S3072x512_S512x512_1024_0
  · exact chunk_at x xs wg gs wu us 512 _ _ inb_S3072x512_S512x512_512_0
  · exact chunk_at x xs wg gs wu us 0 _ _ inb_S3072x512_S512x512_0_0

end Cert.Proof.Block

end
-- ==== Proof.Result.lean ====
/- Hand-written, untrusted: THE RESULT AS ONE FUNCTION OF THE SIX ARGUMENTS (`result`): the formula of Formula.lean of the
   activations as 3072 rows, the row scales as a column and the two column scales as rows, folded back into two batches
   of 1536 rows. Each program is shown, in a module of its own, to end with its result array at this function of its
   arguments, at that program's form of silu. -/
module

public import proofs.«01_k».proof.Proof.Formula

@[expose] public section

noncomputable section

namespace Cert.Proof.Result

open Idealize.ShloMosaic Cert.Proof.Formula

/-- The eight-bit floats that an array of bit patterns denotes. -/
abbrev decoded {s : Shape} (b : IVec s 8) : FVec Ideal s .fp8e4m3 := bitcastToFloat .fp8e4m3 b

/-- The two batches of rows as one matrix of 3072 rows. -/
abbrev rows (x : FVec Ideal ⟨3, ![2, 1536, 2304]⟩ .fp8e4m3) : FVec Ideal ⟨2, ![3072, 2304]⟩ .fp8e4m3 :=
  shapeCast ⟨2, ![3072, 2304]⟩ x (by decide)

/-- The two batches of row scales as one column. -/
abbrev column (xs : FVec Ideal ⟨3, ![2, 1536, 1]⟩ .f32) : FVec Ideal ⟨2, ![3072, 1]⟩ .f32 :=
  shapeCast ⟨2, ![3072, 1]⟩ xs (by decide)

/-- The column scales as one row. -/
abbrev row (s : FVec Ideal ⟨1, ![5120]⟩ .f32) : FVec Ideal ⟨2, ![1, 5120]⟩ .f32 :=
  shapeCast ⟨2, ![1, 5120]⟩ s (by decide)

/-- The result array, at a form of silu. -/
def result (silu : EReal → EReal) (x : FVec Ideal ⟨3, ![2, 1536, 2304]⟩ .fp8e4m3) (xs : FVec Ideal ⟨3, ![2, 1536, 1]⟩ .f32)
    (wg : FVec Ideal ⟨2, ![2304, 5120]⟩ .fp8e4m3) (gs : FVec Ideal ⟨1, ![5120]⟩ .f32)
    (wu : FVec Ideal ⟨2, ![2304, 5120]⟩ .fp8e4m3) (us : FVec Ideal ⟨1, ![5120]⟩ .f32) :
    FVec Ideal ⟨3, ![2, 1536, 5120]⟩ .bf16 :=
  shapeCast ⟨3, ![2, 1536, 5120]⟩ (fused silu (rows x) (column xs) wg (row gs) wu (row us)) (by decide)

/-- Two forms of silu that agree at every gate give one result. -/
theorem result_silu_congr {f g : EReal → EReal} (x : FVec Ideal ⟨3, ![2, 1536, 2304]⟩ .fp8e4m3)
    (xs : FVec Ideal ⟨3, ![2, 1536, 1]⟩ .f32) (wg : FVec Ideal ⟨2, ![2304, 5120]⟩ .fp8e4m3) (gs : FVec Ideal ⟨1, ![5120]⟩ .f32)
    (wu : FVec Ideal ⟨2, ![2304, 5120]⟩ .fp8e4m3) (us : FVec Ideal ⟨1, ![5120]⟩ .f32)
    (h : ∀ r c, f (scaled (rows x) (column xs) wg (row gs) r c) = g (scaled (rows x) (column xs) wg (row gs) r c)) :
    result f x xs wg gs wu us = result g x xs wg gs wu us := by
  unfold result
  rw [fused_silu_congr _ _ _ _ _ _ h]

end Cert.Proof.Result

end
-- ==== Proof.KernelRun.lean ====
/- Hand-written, untrusted: THE KERNEL'S RUN, READ. Grid point `t` writes columns `512 t` to `512 t + 511` of the output, from
   the same columns of the weights and their scales and from all of the activations; so each tile is that block of the formula
   of the whole matrices (`flushed_eq`), the ten tiles fill the array (`covered`), and the array ends at the formula
   (`final`). The reshape after the kernel folds it into the result (`tail_eq`, `run`). -/
module

public import proofs.«01_k».proof.Proof.Block
public import proofs.«01_k».proof.Proof.Result
public import Idealize.ShloMosaic.Lib.Claim

@[expose] public section

noncomputable section

namespace Cert.Proof.KernelRun

open Cert.KernelIdeal Cert.KernelIdeal.Gen Cert.Proof.Formula Cert.Proof.Silu Cert.Proof.Result
open Idealize.ShloMosaic Idealize.ShloMosaic.TcCoe Idealize.SL.Sem

variable (m : (ℓ : Loc nD τ sig) → Buf (Elt Ideal) ℓ) (ρ : Dev nD → PrngReg)

/-! ## The six operands as the kernel finds them -/

/-- The activations, as rows. -/
theorem V_x (c : Dev nD) : V m c main_v0 = rows (m ((c : Thread nD τ).loc main_arg0)) := by
  entry_read; rfl
/-- The row scales, as a column. -/
theorem V_xs (c : Dev nD) : V m c main_v1 = column (m ((c : Thread nD τ).loc main_arg1)) := by
  entry_read; rfl
/-- The gate scales, as a row. -/
theorem V_gs (c : Dev nD) : V m c main_v2 = row (m ((c : Thread nD τ).loc main_arg3)) := by
  entry_read; rfl
/-- The up scales, as a row. -/
theorem V_us (c : Dev nD) : V m c main_v3 = row (m ((c : Thread nD τ).loc main_arg5)) := by
  entry_read; rfl

/-- The formula of the operands as the kernel finds them: what the output array is shown to hold. -/
abbrev whole (c : Dev nD) : FVec Ideal S3072x5120 .bf16 :=
  fused halfTanh (V m c main_v0) (V m c main_v1) (V m c main_arg2) (V m c main_v2) (V m c main_arg4) (V m c main_v3)

/-! ## Where each window's block lies at a grid point -/

/-- The activations and their scales are whole at every point; the weights, their scales and the output are at column
    block `t`. -/
theorem idx : ∀ t : Fin cfg0.N,
    (win0_0.index t (0 : Fin 2) = 0 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = t.val)
    ∧ (win0_3.index t (0 : Fin 2) = 0 ∧ win0_3.index t (1 : Fin 2) = t.val)
    ∧ (win0_4.index t (0 : Fin 2) = 0 ∧ win0_4.index t (1 : Fin 2) = t.val)
    ∧ (win0_5.index t (0 : Fin 2) = 0 ∧ win0_5.index t (1 : Fin 2) = t.val)
    ∧ (win0_6.index t (0 : Fin 2) = 0 ∧ win0_6.index t (1 : Fin 2) = t.val) :=
  (by decide +kernel : ∀ t : Fin grid0.N, _)

/-- Window 0, the activations: block is the whole array. -/
theorem emb0 (t : Fin cfg0.N) (j : S3072x2304.Idx) : ((cfg0.win 0).blk t).view.emb j = j := by
  obtain ⟨e0, e1⟩ := (idx t).1
  funext a; apply Fin.ext
  match a with
  | ⟨0, _⟩ => show win0_0.index t (0 : Fin 2) * 3072 + 1 * (j 0).val = (j 0).val; omega
  | ⟨1, _⟩ => show win0_0.index t (1 : Fin 2) * 2304 + 1 * (j 1).val = (j 1).val; omega

/-- Window 1, the row scales: block is the whole array. -/
theorem emb1 (t : Fin cfg0.N) (j : S3072x1.Idx) : ((cfg0.win 1).blk t).view.emb j = j := by
  obtain ⟨e0, e1⟩ := (idx t).2.1
  funext a; apply Fin.ext
  match a with
  | ⟨0, _⟩ => show win0_1.index t (0 : Fin 2) * 3072 + 1 * (j 0).val = (j 0).val; omega
  | ⟨1, _⟩ => show win0_1.index t (1 : Fin 2) * 1 + 1 * (j 1).val = (j 1).val; omega

/-- Column `k` of block `t` is column `512 t + k` of the array. -/
def col (t : Fin cfg0.N) (k : Fin 512) : Fin 5120 :=
  ⟨t.val * 512 + k.val, by have h : t.val < 10 := lt_of_lt_of_eq t.isLt N_0; omega⟩

/-- Window 2, the gate weights: block `t` is columns `512 t` to `512 t + 511`. -/
theorem emb2 (t : Fin cfg0.N) (r : Fin 2304) (k : Fin 512) : ((cfg0.win 2).blk t).view.emb (ix2 r k) = ix2 r (col t k) := by
  obtain ⟨e0, e1⟩ := (idx t).2.2.1
  funext a; apply Fin.ext
  match a with
  | ⟨0, _⟩ => show win0_2.index t (0 : Fin 2) * 2304 + 1 * r.val = r.val; omega
  | ⟨1, _⟩ => show win0_2.index t (1 : Fin 2) * 512 + 1 * k.val = t.val * 512 + k.val; omega

/-- Window 3, the gate scales: block `t` is columns `512 t` to `512 t + 511`. -/
theorem emb3 (t : Fin cfg0.N) (r : Fin 1) (k : Fin 512) : ((cfg0.win 3).blk t).view.emb (ix2 r k) = ix2 r (col t k) := by
  obtain ⟨e0, e1⟩ := (idx t).2.2.2.1
  funext a; apply Fin.ext
  match a with
  | ⟨0, _⟩ => show win0_3.index t (0 : Fin 2) * 1 + 1 * r.val = r.val; omega
  | ⟨1, _⟩ => show win0_3.index t (1 : Fin 2) * 512 + 1 * k.val = t.val * 512 + k.val; omega

/-- Window 4, the up weights: block `t` is columns `512 t` to `512 t + 511`. -/
theorem emb4 (t : Fin cfg0.N) (r : Fin 2304) (k : Fin 512) : ((cfg0.win 4).blk t).view.emb (ix2 r k) = ix2 r (col t k) := by
  obtain ⟨e0, e1⟩ := (idx t).2.2.2.2.1
  funext a; apply Fin.ext
  match a with
  | ⟨0, _⟩ => show win0_4.index t (0 : Fin 2) * 2304 + 1 * r.val = r.val; omega
  | ⟨1, _⟩ => show win0_4.index t (1 : Fin 2) * 512 + 1 * k.val = t.val * 512 + k.val; omega

/-- Window 5, the up scales: block `t` is columns `512 t` to `512 t + 511`. -/
theorem emb5 (t : Fin cfg0.N) (r : Fin 1) (k : Fin 512) : ((cfg0.win 5).blk t).view.emb (ix2 r k) = ix2 r (col t k) := by
  obtain ⟨e0, e1⟩ := (idx t).2.2.2.2.2.1
  funext a; apply Fin.ext
  match a with
  | ⟨0, _⟩ => show win0_5.index t (0 : Fin 2) * 1 + 1 * r.val = r.val; omega
  | ⟨1, _⟩ => show win0_5.index t (1 : Fin 2) * 512 + 1 * k.val = t.val * 512 + k.val; omega

/-- Window 6, the output: block `t` is columns `512 t` to `512 t + 511`. -/
theorem emb6 (t : Fin cfg0.N) (r : Fin 3072) (k : Fin 512) : ((cfg0.win 6).blk t).view.emb (ix2 r k) = ix2 r (col t k) := by
  obtain ⟨e0, e1⟩ := (idx t).2.2.2.2.2.2
  funext a; apply Fin.ext
  match a with
  | ⟨0, _⟩ => show win0_6.index t (0 : Fin 2) * 3072 + 1 * r.val = r.val; omega
  | ⟨1, _⟩ => show win0_6.index t (1 : Fin 2) * 512 + 1 * k.val = t.val * 512 + k.val; omega

/-! ## The output array -/

/-- What point `t` writes back is block `t` of the formula of the whole operands. -/
theorem flushed_eq (c : Dev nD) (t : Fin cfg0.N) :
    (dats m 0 c).flushed 6 t = ((cfg0.win 6).blk t).view.read (Elt Ideal) (whole m c) := by
  show (cfg0.win 6).cut (grid0.coords t) ((dats m 0 c).after 6 t) = _
  rw [after0_6, Block.out_eq]
  funext j
  obtain ⟨r, k, rfl⟩ : ∃ (r : Fin 3072) (k : Fin 512), j = ix2 r k := ⟨j 0, j 1, eq_ix2 j⟩
  show fused halfTanh _ _ _ _ _ _ (ix2 r k) = whole m c (((cfg0.win 6).blk t).view.emb (ix2 r k))
  rw [emb6]
  exact fused_block halfTanh (fun i => congrArg (V m c main_v0) (emb0 t _)) (congrArg (V m c main_v1) (emb1 t _))
    (fun i => congrArg (V m c main_arg2) (emb2 t i k)) (congrArg (V m c main_v2) (emb3 t 0 k))
    (fun i => congrArg (V m c main_arg4) (emb4 t i k)) (congrArg (V m c main_v3) (emb5 t 0 k))

/-- Every index of the output array is in some point's block. -/
theorem covered (i : S3072x5120.Idx) :
    ∃ t : Fin cfg0.N, (cfg0.win 6).flush t = true ∧ i ∈ ((cfg0.win 6).blk t).view.set := by
  obtain ⟨r, k, rfl⟩ : ∃ (r : Fin 3072) (k : Fin 5120), i = ix2 r k := ⟨i 0, i 1, eq_ix2 i⟩
  have hN : cfg0.N = 10 := N_0
  have hk := k.isLt
  refine ⟨⟨k.val / 512, by omega⟩, flush0_6 _, ?_⟩
  have h := ((cfg0.win 6).blk (⟨k.val / 512, by omega⟩ : Fin cfg0.N)).view.emb_mem_set
    (ix2 r (⟨k.val % 512, by omega⟩ : Fin 512))
  rw [emb6] at h
  have e : col ⟨k.val / 512, by omega⟩ ⟨k.val % 512, by omega⟩ = k := Fin.ext (by
    show k.val / 512 * 512 + k.val % 512 = k.val; omega)
  rwa [e] at h

/-- The output array after the kernel is the formula of the whole operands. -/
theorem final (c : Dev nD) : (dats m 0 c).arrAt 6 cfg0.N = whole m c :=
  (dats m 0 c).arrAt_eq_of_cover 6 (whole m c) (fun t _ => flushed_eq m c t) covered

/-! ## The result -/

/-- The reshape after the region leaves the result array at the output array, folded. -/
theorem tail_eq (c : Dev nD) : Pipeline.afterTail₀ cfgs (dats m) 0 (V0 m) [hostOps1] c main_v5
    = shapeCast S2x1536x5120 (whole m c) shapeCasts_S3072x5120_S2x1536x5120 := by
  have h : Pipeline.withArrays spec0 c (V0 m c) (fun w => (dats m 0 c).arrAt w cfg0.N) (Proc.devRef (τ := τ) .tc main_v4)
      = whole m c :=
    (Pipeline.withArrays_arr spec0 (by decide) c (V0 m c) (fun w => (dats m 0 c).arrAt w cfg0.N) 6).trans (final m c)
  unfold Pipeline.afterTail₀
  simp only [hostOps1, List.flatten_cons, List.flatten_nil, List.append_nil, StableHlo.after_cons, StableHlo.after_nil]
  rw [StableHlo.reshape_result]
  exact congrArg (fun v => shapeCast S2x1536x5120 v shapeCasts_S3072x5120_S2x1536x5120) h

/-- The run: the result array ends at `result` of the arguments, and the arguments end unchanged. -/
theorem run : θ_run defs (onTc (τ := τ) (main (F := Ideal))) ⟨m, fun _ => 0, ρ⟩ fun r => ∀ c : Dev nD,
      r.2.mem ((c : Thread nD τ).loc main_v5)
        = result halfTanh (m ((c : Thread nD τ).loc main_arg0)) (m ((c : Thread nD τ).loc main_arg1))
            (m ((c : Thread nD τ).loc main_arg2)) (m ((c : Thread nD τ).loc main_arg3))
            (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => by
    refine ⟨((h.1 c).2 main_v5 (Pipeline.mem_restRefs_of main_v5 (by decide) (by decide))).trans ?_, h.2 c⟩
    rw [tail_eq, whole, V_x, V_xs, V_main_arg2, V_gs, V_main_arg4, V_us]
    rfl) (θ_run_and (run_main m ρ) (unchanged m ρ))

end Cert.Proof.KernelRun

end
-- ==== Proof.ReferenceRun.lean ====
/- Hand-written, untrusted: THE REFERENCE'S RUN, READ. The reference is one program over whole arrays: its one store's
   payload is the formula of Formula.lean over the whole operands, with silu guarded at minus infinity (`payload_eq`, `out_eq`),
   so the output array ends at it (`final`), and the reshape after folds it into the result (`tail_eq`, `run`). -/
module

public import proofs.«01_k».proof.Proof.Result
public import proofs.«01_k».proof.Proof.Gen.ReferenceIdeal.Frame
public import Idealize.ShloMosaic.Lib.Pipeline.Value
public import Idealize.ShloMosaic.Lib.Pointwise
public import Idealize.ShloMosaic.Lib.Claim

@[expose] public section

noncomputable section

namespace Cert.Proof.ReferenceRun

open Cert.ReferenceIdeal Cert.ReferenceIdeal.Gen Cert.Proof.Formula Cert.Proof.Silu Cert.Proof.Result
open Idealize.ShloMosaic Idealize.ShloMosaic.TcCoe Idealize.SL.Sem

set_option maxRecDepth 16384 in
/-- The store's payload is the formula of the operands. -/
theorem payload_eq (x : Vec Ideal S3072x2304 .fp8e4m3) (xs : Vec Ideal S3072x1 .f32) (wg : Vec Ideal S2304x5120 .fp8e4m3)
    (gs : Vec Ideal S1x5120 .f32) (wu : Vec Ideal S2304x5120 .fp8e4m3) (us : Vec Ideal S1x5120 .f32) :
    k0_pay1 x xs wg gs wu us = fused siluOrBot x xs wg gs wu us := by
  funext j
  pointwise [k0_pay1]
  rfl

/-- The origin, written two ways. -/
theorem hz : (![0, 0] : Fin 2 → Nat) = fun _ => 0 := funext fun a => by fin_cases a <;> rfl

/-- What the body leaves in the output buffer is the formula of the operands. -/
theorem out_eq (x : Vec Ideal S3072x2304 .fp8e4m3) (xs : Vec Ideal S3072x1 .f32) (wg : Vec Ideal S2304x5120 .fp8e4m3)
    (gs : Vec Ideal S1x5120 .f32) (wu : Vec Ideal S2304x5120 .fp8e4m3) (us : Vec Ideal S1x5120 .f32) :
    out0_6 x xs wg gs wu us = fused siluOrBot x xs wg gs wu us := by
  unfold out0_6
  rw [View.canon_unit_zero hz, View.ld_unit_zero hz, View.ld_unit_zero hz, View.ld_unit_zero hz, View.ld_unit_zero hz,
    View.ld_unit_zero hz, View.ld_unit_zero hz, payload_eq]

variable (m : (ℓ : Loc nD τ sig) → Buf (Elt Ideal) ℓ) (ρ : Dev nD → PrngReg)

/-! ## The six operands as the region finds them -/

/-- The activations, as rows. -/
theorem V_x (c : Dev nD) : V m c main_v0 = rows (m ((c : Thread nD τ).loc main_arg0)) := by
  entry_read; rfl
/-- The row scales, as a column. -/
theorem V_xs (c : Dev nD) : V m c main_v1 = column (m ((c : Thread nD τ).loc main_arg1)) := by
  entry_read; rfl
/-- The gate scales, as a row. -/
theorem V_gs (c : Dev nD) : V m c main_v2 = row (m ((c : Thread nD τ).loc main_arg3)) := by
  entry_read; rfl
/-- The up scales, as a row. -/
theorem V_us (c : Dev nD) : V m c main_v3 = row (m ((c : Thread nD τ).loc main_arg5)) := by
  entry_read; rfl

/-- The formula of the operands as the region finds them: what the output array is shown to hold. -/
abbrev whole (c : Dev nD) : FVec Ideal S3072x5120 .bf16 :=
  fused siluOrBot (V m c main_v0) (V m c main_v1) (V m c main_arg2)
    (V m c main_v2) (V m c main_arg4) (V m c main_v3)

/-! ## The output array -/

/-- Every window's one block starts at the origin. -/
theorem idx : ∀ t : Fin cfg0.N,
    (win0_0.index t (0 : Fin 2) = 0 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0) :=
  (by decide +kernel : ∀ t : Fin grid0.N, _)

/-- Window 0, the activations: block is the whole array. -/
theorem emb0 (t : Fin cfg0.N) (j : S3072x2304.Idx) : ((cfg0.win 0).blk t).view.emb j = j := by
  obtain ⟨e0, e1⟩ := (idx t).1
  funext a; apply Fin.ext
  match a with
  | ⟨0, _⟩ => show win0_0.index t (0 : Fin 2) * 3072 + 1 * (j 0).val = (j 0).val; omega
  | ⟨1, _⟩ => show win0_0.index t (1 : Fin 2) * 2304 + 1 * (j 1).val = (j 1).val; omega

/-- Window 1, the row scales: block is the whole array. -/
theorem emb1 (t : Fin cfg0.N) (j : S3072x1.Idx) : ((cfg0.win 1).blk t).view.emb j = j := by
  obtain ⟨e0, e1⟩ := (idx t).2.1
  funext a; apply Fin.ext
  match a with
  | ⟨0, _⟩ => show win0_1.index t (0 : Fin 2) * 3072 + 1 * (j 0).val = (j 0).val; omega
  | ⟨1, _⟩ => show win0_1.index t (1 : Fin 2) * 1 + 1 * (j 1).val = (j 1).val; omega

/-- Window 2, the gate weights: block is the whole array. -/
theorem emb2 (t : Fin cfg0.N) (j : S2304x5120.Idx) : ((cfg0.win 2).blk t).view.emb j = j := by
  obtain ⟨e0, e1⟩ := (idx t).2.2.1
  funext a; apply Fin.ext
  match a with
  | ⟨0, _⟩ => show win0_2.index t (0 : Fin 2) * 2304 + 1 * (j 0).val = (j 0).val; omega
  | ⟨1, _⟩ => show win0_2.index t (1 : Fin 2) * 5120 + 1 * (j 1).val = (j 1).val; omega

/-- Window 3, the gate scales: block is the whole array. -/
theorem emb3 (t : Fin cfg0.N) (j : S1x5120.Idx) : ((cfg0.win 3).blk t).view.emb j = j := by
  obtain ⟨e0, e1⟩ := (idx t).2.2.2.1
  funext a; apply Fin.ext
  match a with
  | ⟨0, _⟩ => show win0_3.index t (0 : Fin 2) * 1 + 1 * (j 0).val = (j 0).val; omega
  | ⟨1, _⟩ => show win0_3.index t (1 : Fin 2) * 5120 + 1 * (j 1).val = (j 1).val; omega

/-- Window 4, the up weights: block is the whole array. -/
theorem emb4 (t : Fin cfg0.N) (j : S2304x5120.Idx) : ((cfg0.win 4).blk t).view.emb j = j := by
  obtain ⟨e0, e1⟩ := (idx t).2.2.2.2.1
  funext a; apply Fin.ext
  match a with
  | ⟨0, _⟩ => show win0_4.index t (0 : Fin 2) * 2304 + 1 * (j 0).val = (j 0).val; omega
  | ⟨1, _⟩ => show win0_4.index t (1 : Fin 2) * 5120 + 1 * (j 1).val = (j 1).val; omega

/-- Window 5, the up scales: block is the whole array. -/
theorem emb5 (t : Fin cfg0.N) (j : S1x5120.Idx) : ((cfg0.win 5).blk t).view.emb j = j := by
  obtain ⟨e0, e1⟩ := (idx t).2.2.2.2.2.1
  funext a; apply Fin.ext
  match a with
  | ⟨0, _⟩ => show win0_5.index t (0 : Fin 2) * 1 + 1 * (j 0).val = (j 0).val; omega
  | ⟨1, _⟩ => show win0_5.index t (1 : Fin 2) * 5120 + 1 * (j 1).val = (j 1).val; omega

/-- Window 6, the output: block is the whole array. -/
theorem emb6 (t : Fin cfg0.N) (j : S3072x5120.Idx) : ((cfg0.win 6).blk t).view.emb j = j := by
  obtain ⟨e0, e1⟩ := (idx t).2.2.2.2.2.2
  funext a; apply Fin.ext
  match a with
  | ⟨0, _⟩ => show win0_6.index t (0 : Fin 2) * 3072 + 1 * (j 0).val = (j 0).val; omega
  | ⟨1, _⟩ => show win0_6.index t (1 : Fin 2) * 5120 + 1 * (j 1).val = (j 1).val; omega

/-- What the one point writes back is the formula of the operands. -/
theorem flushed_eq (c : Dev nD) (t : Fin cfg0.N) :
    (dats m 0 c).flushed 6 t = ((cfg0.win 6).blk t).view.read (Elt Ideal) (whole m c) := by
  show (cfg0.win 6).cut (grid0.coords t) ((dats m 0 c).after 6 t) = _
  rw [after0_6, out_eq]
  funext j
  obtain ⟨r, k, rfl⟩ : ∃ (r : Fin 3072) (k : Fin 5120), j = ix2 r k := ⟨j 0, j 1, eq_ix2 j⟩
  show fused siluOrBot _ _ _ _ _ _ (ix2 r k) = whole m c (((cfg0.win 6).blk t).view.emb (ix2 r k))
  rw [emb6]
  exact fused_block siluOrBot (fun i => congrArg (V m c main_v0) (emb0 t _)) (congrArg (V m c main_v1) (emb1 t _))
    (fun i => congrArg (V m c main_arg2) (emb2 t _)) (congrArg (V m c main_v2) (emb3 t _))
    (fun i => congrArg (V m c main_arg4) (emb4 t _)) (congrArg (V m c main_v3) (emb5 t _))

/-- Every index of the output array is in the one point's block. -/
theorem covered (i : S3072x5120.Idx) :
    ∃ t : Fin cfg0.N, (cfg0.win 6).flush t = true ∧ i ∈ ((cfg0.win 6).blk t).view.set := by
  refine ⟨t0_0, flush0_6 _, ?_⟩
  have h := ((cfg0.win 6).blk (t0_0)).view.emb_mem_set i
  rwa [emb6] at h

/-- The output array after the region is the formula of the operands. -/
theorem final (c : Dev nD) : (dats m 0 c).arrAt 6 cfg0.N = whole m c :=
  (dats m 0 c).arrAt_eq_of_cover 6 (whole m c) (fun t _ => flushed_eq m c t) covered

/-! ## The result -/

/-- The reshape after the region leaves the result array at the output array, folded. -/
theorem tail_eq (c : Dev nD) : Pipeline.afterTail₀ cfgs (dats m) 0 (V0 m) [hostOps1] c main_v5
    = shapeCast S2x1536x5120 (whole m c) shapeCasts_S3072x5120_S2x1536x5120 := by
  have h : Pipeline.withArrays spec0 c (V0 m c) (fun w => (dats m 0 c).arrAt w cfg0.N) (Proc.devRef (τ := τ) .tc main_v4)
      = whole m c :=
    (Pipeline.withArrays_arr spec0 (by decide) c (V0 m c) (fun w => (dats m 0 c).arrAt w cfg0.N) 6).trans (final m c)
  unfold Pipeline.afterTail₀
  simp only [hostOps1, List.flatten_cons, List.flatten_nil, List.append_nil, StableHlo.after_cons, StableHlo.after_nil]
  rw [StableHlo.reshape_result]
  exact congrArg (fun v => shapeCast S2x1536x5120 v shapeCasts_S3072x5120_S2x1536x5120) h

/-- The run: the result array ends at `result` of the arguments, and the arguments end unchanged. -/
theorem run : θ_run defs (onTc (τ := τ) (main (F := Ideal))) ⟨m, fun _ => 0, ρ⟩ fun r => ∀ c : Dev nD,
      r.2.mem ((c : Thread nD τ).loc main_v5)
        = result siluOrBot (m ((c : Thread nD τ).loc main_arg0)) (m ((c : Thread nD τ).loc main_arg1))
            (m ((c : Thread nD τ).loc main_arg2)) (m ((c : Thread nD τ).loc main_arg3))
            (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => by
    refine ⟨((h.1 c).2 main_v5 (Pipeline.mem_restRefs_of main_v5 (by decide) (by decide))).trans ?_, h.2 c⟩
    rw [tail_eq, whole, V_x, V_xs, V_main_arg2, V_gs, V_main_arg4, V_us]
    rfl) (θ_run_and (run_main m ρ) (unchanged m ρ))

end Cert.Proof.ReferenceRun

end
-- ==== Proof.BlockOfBits.lean ====
/- Hand-written, untrusted: WHAT THE KERNEL ON BIT PATTERNS LEAVES IN ONE OUTPUT TILE: as in Block.lean, for the program whose
   three eight-bit operands are bitcast before the kernel. The kernel is the same; its printed form here is a text of its own,
   so its chunks are read again (`chunk_eq`, `out_eq`). -/
module

public import proofs.«01_k».proof.Proof.Formula
public import proofs.«01_k».proof.Proof.Gen.KernelOfBitsIdeal.Frame
public import Idealize.ShloMosaic.Lib.Pipeline.Value
public import Idealize.ShloMosaic.Lib.Pointwise

@[expose] public section

noncomputable section

namespace Cert.Proof.BlockOfBits

open Cert.KernelOfBitsIdeal Cert.KernelOfBitsIdeal.Gen Cert.Proof.Formula Cert.Proof.Silu
open Idealize.ShloMosaic Idealize.ShloMosaic.TcCoe Idealize.SL.Sem Idealize.ShloMosaic.ValueIdx

set_option maxRecDepth 16384 in
/-- One chunk's payload is the formula over the chunk's rows, with the kernel's form of silu. -/
theorem chunk_eq (gs us : Vec Ideal S1x512 .f32) (x : Vec Ideal S512x2304 .fp8e4m3) (xs : Vec Ideal S512x1 .f32)
    (wg wu : Vec Ideal S2304x512 .fp8e4m3) :
    k0_pay4 gs us x xs wg wu = fused halfTanh x xs wg gs wu us := by
  funext j
  pointwise [k0_pay4, k0_pay1, k0_pay2, k0_pay3]
  rfl

/-- The origin, written two ways. -/
theorem hz : (![0, 0] : Fin 2 → Nat) = fun _ => 0 := funext fun a => by fin_cases a <;> rfl

variable (x : Vec Ideal S3072x2304 .fp8e4m3) (xs : Vec Ideal S3072x1 .f32) (wg : Vec Ideal S2304x512 .fp8e4m3)
  (gs : Vec Ideal S1x512 .f32) (wu : Vec Ideal S2304x512 .fp8e4m3) (us : Vec Ideal S1x512 .f32)

/-- A chunk of 512 rows starting at row `a`, computed from those rows of `x` and `xs`, is those rows of the whole tile's
    formula. -/
theorem chunk_at (a : ℕ) (hx : ∀ i, (![a, 0] : Fin 2 → ℕ) i + S512x2304.size i ≤ S3072x2304.size i)
    (hs : ∀ i, (![a, 0] : Fin 2 → ℕ) i + S512x1.size i ≤ S3072x1.size i)
    (ho : ∀ i, (![a, 0] : Fin 2 → ℕ) i + S512x512.size i ≤ S3072x512.size i) (j : S512x512.Idx) :
    k0_pay4 (View.ld gs r0_0) (View.ld us r0_0) (View.ld x (Rect.unit (s := S3072x2304) ![a, 0] S512x2304.size hx))
        (View.ld xs (Rect.unit (s := S3072x1) ![a, 0] S512x1.size hs)) (View.ld wg r0_3) (View.ld wu r0_3) j
      = fused halfTanh x xs wg gs wu us ((Rect.unit (s := S3072x512) ![a, 0] S512x512.size ho).emb j) := by
  rw [chunk_eq, View.ld_unit_zero hz, View.ld_unit_zero hz, View.ld_unit_zero hz, View.ld_unit_zero hz]
  refine fused_block halfTanh (fun k => congrArg x ?_) (congrArg xs ?_) (fun k => congrArg wg ?_) (congrArg gs ?_)
    (fun k => congrArg wu ?_) (congrArg us ?_)
  all_goals
    funext b; apply Fin.ext
    match b with
    | ⟨0, _⟩ => simp [Rect.unit, Rect.emb]
    | ⟨1, _⟩ => simp [Rect.unit, Rect.emb]

/-- The six chunks are the formula of the whole tile. -/
theorem out_eq : out0_6 x xs wg gs wu us = fused halfTanh x xs wg gs wu us := by
  funext y
  unfold out0_6 k0_pay21 k0_pay22
  refine View.canon_apply_of_pieces (Val := Elt Ideal) (fused halfTanh x xs wg gs wu us) _ ?_ y (cover0_6 _ _ _ _ _ _ y)
  intro p hp
  simp only [List.mem_cons, List.mem_nil_iff, or_false] at hp
  rcases hp with rfl | rfl | rfl | rfl | rfl | rfl
  · exact chunk_at x xs wg gs wu us 2560 _ _ inb_S3072x512_S512x512_2560_0
  · exact chunk_at x xs wg gs wu us 2048 _ _ inb_S3072x512_S512x512_2048_0
  · exact chunk_at x xs wg gs wu us 1536 _ _ inb_S3072x512_S512x512_1536_0
  · exact chunk_at x xs wg gs wu us 1024 _ _ inb_S3072x512_S512x512_1024_0
  · exact chunk_at x xs wg gs wu us 512 _ _ inb_S3072x512_S512x512_512_0
  · exact chunk_at x xs wg gs wu us 0 _ _ inb_S3072x512_S512x512_0_0

end Cert.Proof.BlockOfBits

end
-- ==== Proof.KernelOfBitsRun.lean ====
/- Hand-written, untrusted: THE RUN OF THE KERNEL ON BIT PATTERNS, READ: as in KernelRun.lean, with the three eight-bit
   operands bitcast before the kernel. Grid point `t` writes columns `512 t` to `512 t + 511` of the output, from the same
   columns of the weights and their scales and from all of the activations; so each tile is that block of the formula of the
   whole matrices (`flushed_eq`), the ten tiles fill the array (`covered`), and the array ends at the formula (`final`). The
   reshape after the kernel folds it into the result (`tail_eq`, `run`). -/
module

public import proofs.«01_k».proof.Proof.BlockOfBits
public import proofs.«01_k».proof.Proof.Result
public import Idealize.ShloMosaic.Lib.Claim

@[expose] public section

noncomputable section

namespace Cert.Proof.KernelOfBitsRun

open Cert.KernelOfBitsIdeal Cert.KernelOfBitsIdeal.Gen Cert.Proof.Formula Cert.Proof.Silu Cert.Proof.Result
open Idealize.ShloMosaic Idealize.ShloMosaic.TcCoe Idealize.SL.Sem

variable (m : (ℓ : Loc nD τ sig) → Buf (Elt Ideal) ℓ) (ρ : Dev nD → PrngReg)

/-! ## The six operands as the kernel finds them -/

/-- The activations, decoded, as rows. -/
theorem V_x (c : Dev nD) : V m c main_v3 = rows (decoded (s := S2x1536x2304) (m ((c : Thread nD τ).loc main_arg0))) := by
  entry_read; rfl
/-- The row scales, as a column. -/
theorem V_xs (c : Dev nD) : V m c main_v4 = column (m ((c : Thread nD τ).loc main_arg1)) := by
  entry_read; rfl
/-- The gate weights, decoded. -/
theorem V_wg (c : Dev nD) : (V m c main_v1 : FVec Ideal S2304x5120 .fp8e4m3) = (decoded (s := S2304x5120) (m ((c : Thread nD τ).loc main_arg2))) := by
  entry_read; rfl
/-- The gate scales, as a row. -/
theorem V_gs (c : Dev nD) : V m c main_v5 = row (m ((c : Thread nD τ).loc main_arg3)) := by
  entry_read; rfl
/-- The up weights, decoded. -/
theorem V_wu (c : Dev nD) : (V m c main_v2 : FVec Ideal S2304x5120 .fp8e4m3) = (decoded (s := S2304x5120) (m ((c : Thread nD τ).loc main_arg4))) := by
  entry_read; rfl
/-- The up scales, as a row. -/
theorem V_us (c : Dev nD) : V m c main_v6 = row (m ((c : Thread nD τ).loc main_arg5)) := by
  entry_read; rfl

/-- The formula of the operands as the kernel finds them: what the output array is shown to hold. -/
abbrev whole (c : Dev nD) : FVec Ideal S3072x5120 .bf16 :=
  fused halfTanh (V m c main_v3) (V m c main_v4) (V m c main_v1) (V m c main_v5) (V m c main_v2) (V m c main_v6)

/-! ## Where each window's block lies at a grid point -/

/-- The activations and their scales are whole at every point; the weights, their scales and the output are at column
    block `t`. -/
theorem idx : ∀ t : Fin cfg0.N,
    (win0_0.index t (0 : Fin 2) = 0 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = t.val)
    ∧ (win0_3.index t (0 : Fin 2) = 0 ∧ win0_3.index t (1 : Fin 2) = t.val)
    ∧ (win0_4.index t (0 : Fin 2) = 0 ∧ win0_4.index t (1 : Fin 2) = t.val)
    ∧ (win0_5.index t (0 : Fin 2) = 0 ∧ win0_5.index t (1 : Fin 2) = t.val)
    ∧ (win0_6.index t (0 : Fin 2) = 0 ∧ win0_6.index t (1 : Fin 2) = t.val) :=
  (by decide +kernel : ∀ t : Fin grid0.N, _)

/-- Window 0, the activations: block is the whole array. -/
theorem emb0 (t : Fin cfg0.N) (j : S3072x2304.Idx) : ((cfg0.win 0).blk t).view.emb j = j := by
  obtain ⟨e0, e1⟩ := (idx t).1
  funext a; apply Fin.ext
  match a with
  | ⟨0, _⟩ => show win0_0.index t (0 : Fin 2) * 3072 + 1 * (j 0).val = (j 0).val; omega
  | ⟨1, _⟩ => show win0_0.index t (1 : Fin 2) * 2304 + 1 * (j 1).val = (j 1).val; omega

/-- Window 1, the row scales: block is the whole array. -/
theorem emb1 (t : Fin cfg0.N) (j : S3072x1.Idx) : ((cfg0.win 1).blk t).view.emb j = j := by
  obtain ⟨e0, e1⟩ := (idx t).2.1
  funext a; apply Fin.ext
  match a with
  | ⟨0, _⟩ => show win0_1.index t (0 : Fin 2) * 3072 + 1 * (j 0).val = (j 0).val; omega
  | ⟨1, _⟩ => show win0_1.index t (1 : Fin 2) * 1 + 1 * (j 1).val = (j 1).val; omega

/-- Column `k` of block `t` is column `512 t + k` of the array. -/
def col (t : Fin cfg0.N) (k : Fin 512) : Fin 5120 :=
  ⟨t.val * 512 + k.val, by have h : t.val < 10 := lt_of_lt_of_eq t.isLt N_0; omega⟩

/-- Window 2, the gate weights: block `t` is columns `512 t` to `512 t + 511`. -/
theorem emb2 (t : Fin cfg0.N) (r : Fin 2304) (k : Fin 512) : ((cfg0.win 2).blk t).view.emb (ix2 r k) = ix2 r (col t k) := by
  obtain ⟨e0, e1⟩ := (idx t).2.2.1
  funext a; apply Fin.ext
  match a with
  | ⟨0, _⟩ => show win0_2.index t (0 : Fin 2) * 2304 + 1 * r.val = r.val; omega
  | ⟨1, _⟩ => show win0_2.index t (1 : Fin 2) * 512 + 1 * k.val = t.val * 512 + k.val; omega

/-- Window 3, the gate scales: block `t` is columns `512 t` to `512 t + 511`. -/
theorem emb3 (t : Fin cfg0.N) (r : Fin 1) (k : Fin 512) : ((cfg0.win 3).blk t).view.emb (ix2 r k) = ix2 r (col t k) := by
  obtain ⟨e0, e1⟩ := (idx t).2.2.2.1
  funext a; apply Fin.ext
  match a with
  | ⟨0, _⟩ => show win0_3.index t (0 : Fin 2) * 1 + 1 * r.val = r.val; omega
  | ⟨1, _⟩ => show win0_3.index t (1 : Fin 2) * 512 + 1 * k.val = t.val * 512 + k.val; omega

/-- Window 4, the up weights: block `t` is columns `512 t` to `512 t + 511`. -/
theorem emb4 (t : Fin cfg0.N) (r : Fin 2304) (k : Fin 512) : ((cfg0.win 4).blk t).view.emb (ix2 r k) = ix2 r (col t k) := by
  obtain ⟨e0, e1⟩ := (idx t).2.2.2.2.1
  funext a; apply Fin.ext
  match a with
  | ⟨0, _⟩ => show win0_4.index t (0 : Fin 2) * 2304 + 1 * r.val = r.val; omega
  | ⟨1, _⟩ => show win0_4.index t (1 : Fin 2) * 512 + 1 * k.val = t.val * 512 + k.val; omega

/-- Window 5, the up scales: block `t` is columns `512 t` to `512 t + 511`. -/
theorem emb5 (t : Fin cfg0.N) (r : Fin 1) (k : Fin 512) : ((cfg0.win 5).blk t).view.emb (ix2 r k) = ix2 r (col t k) := by
  obtain ⟨e0, e1⟩ := (idx t).2.2.2.2.2.1
  funext a; apply Fin.ext
  match a with
  | ⟨0, _⟩ => show win0_5.index t (0 : Fin 2) * 1 + 1 * r.val = r.val; omega
  | ⟨1, _⟩ => show win0_5.index t (1 : Fin 2) * 512 + 1 * k.val = t.val * 512 + k.val; omega

/-- Window 6, the output: block `t` is columns `512 t` to `512 t + 511`. -/
theorem emb6 (t : Fin cfg0.N) (r : Fin 3072) (k : Fin 512) : ((cfg0.win 6).blk t).view.emb (ix2 r k) = ix2 r (col t k) := by
  obtain ⟨e0, e1⟩ := (idx t).2.2.2.2.2.2
  funext a; apply Fin.ext
  match a with
  | ⟨0, _⟩ => show win0_6.index t (0 : Fin 2) * 3072 + 1 * r.val = r.val; omega
  | ⟨1, _⟩ => show win0_6.index t (1 : Fin 2) * 512 + 1 * k.val = t.val * 512 + k.val; omega

/-! ## The output array -/

/-- What point `t` writes back is block `t` of the formula of the whole operands. -/
theorem flushed_eq (c : Dev nD) (t : Fin cfg0.N) :
    (dats m 0 c).flushed 6 t = ((cfg0.win 6).blk t).view.read (Elt Ideal) (whole m c) := by
  show (cfg0.win 6).cut (grid0.coords t) ((dats m 0 c).after 6 t) = _
  rw [after0_6, BlockOfBits.out_eq]
  funext j
  obtain ⟨r, k, rfl⟩ : ∃ (r : Fin 3072) (k : Fin 512), j = ix2 r k := ⟨j 0, j 1, eq_ix2 j⟩
  show fused halfTanh _ _ _ _ _ _ (ix2 r k) = whole m c (((cfg0.win 6).blk t).view.emb (ix2 r k))
  rw [emb6]
  exact fused_block halfTanh (fun i => congrArg (V m c main_v3) (emb0 t _)) (congrArg (V m c main_v4) (emb1 t _))
    (fun i => congrArg (V m c main_v1) (emb2 t i k)) (congrArg (V m c main_v5) (emb3 t 0 k))
    (fun i => congrArg (V m c main_v2) (emb4 t i k)) (congrArg (V m c main_v6) (emb5 t 0 k))

/-- Every index of the output array is in some point's block. -/
theorem covered (i : S3072x5120.Idx) :
    ∃ t : Fin cfg0.N, (cfg0.win 6).flush t = true ∧ i ∈ ((cfg0.win 6).blk t).view.set := by
  obtain ⟨r, k, rfl⟩ : ∃ (r : Fin 3072) (k : Fin 5120), i = ix2 r k := ⟨i 0, i 1, eq_ix2 i⟩
  have hN : cfg0.N = 10 := N_0
  have hk := k.isLt
  refine ⟨⟨k.val / 512, by omega⟩, flush0_6 _, ?_⟩
  have h := ((cfg0.win 6).blk (⟨k.val / 512, by omega⟩ : Fin cfg0.N)).view.emb_mem_set
    (ix2 r (⟨k.val % 512, by omega⟩ : Fin 512))
  rw [emb6] at h
  have e : col ⟨k.val / 512, by omega⟩ ⟨k.val % 512, by omega⟩ = k := Fin.ext (by
    show k.val / 512 * 512 + k.val % 512 = k.val; omega)
  rwa [e] at h

/-- The output array after the kernel is the formula of the whole operands. -/
theorem final (c : Dev nD) : (dats m 0 c).arrAt 6 cfg0.N = whole m c :=
  (dats m 0 c).arrAt_eq_of_cover 6 (whole m c) (fun t _ => flushed_eq m c t) covered

/-! ## The result -/

/-- The reshape after the region leaves the result array at the output array, folded. -/
theorem tail_eq (c : Dev nD) : Pipeline.afterTail₀ cfgs (dats m) 0 (V0 m) [hostOps1] c main_v8
    = shapeCast S2x1536x5120 (whole m c) shapeCasts_S3072x5120_S2x1536x5120 := by
  have h : Pipeline.withArrays spec0 c (V0 m c) (fun w => (dats m 0 c).arrAt w cfg0.N) (Proc.devRef (τ := τ) .tc main_v7)
      = whole m c :=
    (Pipeline.withArrays_arr spec0 (by decide) c (V0 m c) (fun w => (dats m 0 c).arrAt w cfg0.N) 6).trans (final m c)
  unfold Pipeline.afterTail₀
  simp only [hostOps1, List.flatten_cons, List.flatten_nil, List.append_nil, StableHlo.after_cons, StableHlo.after_nil]
  rw [StableHlo.reshape_result]
  exact congrArg (fun v => shapeCast S2x1536x5120 v shapeCasts_S3072x5120_S2x1536x5120) h

/-- The run: the result array ends at `result` of the arguments, and the arguments end unchanged. -/
theorem run : θ_run defs (onTc (τ := τ) (main (F := Ideal))) ⟨m, fun _ => 0, ρ⟩ fun r => ∀ c : Dev nD,
      r.2.mem ((c : Thread nD τ).loc main_v8)
        = result halfTanh (decoded (s := S2x1536x2304) (m ((c : Thread nD τ).loc main_arg0))) (m ((c : Thread nD τ).loc main_arg1))
            (decoded (s := S2304x5120) (m ((c : Thread nD τ).loc main_arg2))) (m ((c : Thread nD τ).loc main_arg3))
            (decoded (s := S2304x5120) (m ((c : Thread nD τ).loc main_arg4))) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => by
    refine ⟨((h.1 c).2 main_v8 (Pipeline.mem_restRefs_of main_v8 (by decide) (by decide))).trans ?_, h.2 c⟩
    rw [tail_eq, whole, V_x, V_xs, V_wg, V_gs, V_wu, V_us]
    rfl) (θ_run_and (run_main m ρ) (unchanged m ρ))

end Cert.Proof.KernelOfBitsRun

end
-- ==== Proof.ReferenceOfBitsRun.lean ====
/- Hand-written, untrusted: THE REFERENCE-OF-BITS'S RUN, READ. The reference is one program over whole arrays: its one store's
   payload is the formula of Formula.lean over the whole operands, with plain silu (`payload_eq`, `out_eq`),
   so the output array ends at it (`final`), and the reshape after folds it into the result (`tail_eq`, `run`). -/
module

public import proofs.«01_k».proof.Proof.Result
public import proofs.«01_k».proof.Proof.Gen.ReferenceOfBitsIdeal.Frame
public import Idealize.ShloMosaic.Lib.Pipeline.Value
public import Idealize.ShloMosaic.Lib.Pointwise
public import Idealize.ShloMosaic.Lib.Claim

@[expose] public section

noncomputable section

namespace Cert.Proof.ReferenceOfBitsRun

open Cert.ReferenceOfBitsIdeal Cert.ReferenceOfBitsIdeal.Gen Cert.Proof.Formula Cert.Proof.Silu Cert.Proof.Result
open Idealize.ShloMosaic Idealize.ShloMosaic.TcCoe Idealize.SL.Sem

set_option maxRecDepth 16384 in
/-- The store's payload is the formula of the operands. -/
theorem payload_eq (x : Vec Ideal S3072x2304 .fp8e4m3) (xs : Vec Ideal S3072x1 .f32) (wg : Vec Ideal S2304x5120 .fp8e4m3)
    (gs : Vec Ideal S1x5120 .f32) (wu : Vec Ideal S2304x5120 .fp8e4m3) (us : Vec Ideal S1x5120 .f32) :
    k0_pay1 x xs wg gs wu us = fused silu x xs wg gs wu us := by
  funext j
  pointwise [k0_pay1]
  rfl

/-- The origin, written two ways. -/
theorem hz : (![0, 0] : Fin 2 → Nat) = fun _ => 0 := funext fun a => by fin_cases a <;> rfl

/-- What the body leaves in the output buffer is the formula of the operands. -/
theorem out_eq (x : Vec Ideal S3072x2304 .fp8e4m3) (xs : Vec Ideal S3072x1 .f32) (wg : Vec Ideal S2304x5120 .fp8e4m3)
    (gs : Vec Ideal S1x5120 .f32) (wu : Vec Ideal S2304x5120 .fp8e4m3) (us : Vec Ideal S1x5120 .f32) :
    out0_6 x xs wg gs wu us = fused silu x xs wg gs wu us := by
  unfold out0_6
  rw [View.canon_unit_zero hz, View.ld_unit_zero hz, View.ld_unit_zero hz, View.ld_unit_zero hz, View.ld_unit_zero hz,
    View.ld_unit_zero hz, View.ld_unit_zero hz, payload_eq]

variable (m : (ℓ : Loc nD τ sig) → Buf (Elt Ideal) ℓ) (ρ : Dev nD → PrngReg)

/-! ## The six operands as the region finds them -/

/-- The activations, decoded, as rows. -/
theorem V_x (c : Dev nD) : V m c main_v3 = rows (decoded (s := S2x1536x2304) (m ((c : Thread nD τ).loc main_arg0))) := by
  entry_read; rfl
/-- The row scales, as a column. -/
theorem V_xs (c : Dev nD) : V m c main_v4 = column (m ((c : Thread nD τ).loc main_arg1)) := by
  entry_read; rfl
/-- The gate weights, decoded. -/
theorem V_wg (c : Dev nD) : (V m c main_v1 : FVec Ideal S2304x5120 .fp8e4m3) = (decoded (s := S2304x5120) (m ((c : Thread nD τ).loc main_arg2))) := by
  entry_read; rfl
/-- The gate scales, as a row. -/
theorem V_gs (c : Dev nD) : V m c main_v5 = row (m ((c : Thread nD τ).loc main_arg3)) := by
  entry_read; rfl
/-- The up weights, decoded. -/
theorem V_wu (c : Dev nD) : (V m c main_v2 : FVec Ideal S2304x5120 .fp8e4m3) = (decoded (s := S2304x5120) (m ((c : Thread nD τ).loc main_arg4))) := by
  entry_read; rfl
/-- The up scales, as a row. -/
theorem V_us (c : Dev nD) : V m c main_v6 = row (m ((c : Thread nD τ).loc main_arg5)) := by
  entry_read; rfl

/-- The formula of the operands as the region finds them: what the output array is shown to hold. -/
abbrev whole (c : Dev nD) : FVec Ideal S3072x5120 .bf16 :=
  fused silu (V m c main_v3) (V m c main_v4) (V m c main_v1)
    (V m c main_v5) (V m c main_v2) (V m c main_v6)

/-! ## The output array -/

/-- Every window's one block starts at the origin. -/
theorem idx : ∀ t : Fin cfg0.N,
    (win0_0.index t (0 : Fin 2) = 0 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0) :=
  (by decide +kernel : ∀ t : Fin grid0.N, _)

/-- Window 0, the activations: block is the whole array. -/
theorem emb0 (t : Fin cfg0.N) (j : S3072x2304.Idx) : ((cfg0.win 0).blk t).view.emb j = j := by
  obtain ⟨e0, e1⟩ := (idx t).1
  funext a; apply Fin.ext
  match a with
  | ⟨0, _⟩ => show win0_0.index t (0 : Fin 2) * 3072 + 1 * (j 0).val = (j 0).val; omega
  | ⟨1, _⟩ => show win0_0.index t (1 : Fin 2) * 2304 + 1 * (j 1).val = (j 1).val; omega

/-- Window 1, the row scales: block is the whole array. -/
theorem emb1 (t : Fin cfg0.N) (j : S3072x1.Idx) : ((cfg0.win 1).blk t).view.emb j = j := by
  obtain ⟨e0, e1⟩ := (idx t).2.1
  funext a; apply Fin.ext
  match a with
  | ⟨0, _⟩ => show win0_1.index t (0 : Fin 2) * 3072 + 1 * (j 0).val = (j 0).val; omega
  | ⟨1, _⟩ => show win0_1.index t (1 : Fin 2) * 1 + 1 * (j 1).val = (j 1).val; omega

/-- Window 2, the gate weights: block is the whole array. -/
theorem emb2 (t : Fin cfg0.N) (j : S2304x5120.Idx) : ((cfg0.win 2).blk t).view.emb j = j := by
  obtain ⟨e0, e1⟩ := (idx t).2.2.1
  funext a; apply Fin.ext
  match a with
  | ⟨0, _⟩ => show win0_2.index t (0 : Fin 2) * 2304 + 1 * (j 0).val = (j 0).val; omega
  | ⟨1, _⟩ => show win0_2.index t (1 : Fin 2) * 5120 + 1 * (j 1).val = (j 1).val; omega

/-- Window 3, the gate scales: block is the whole array. -/
theorem emb3 (t : Fin cfg0.N) (j : S1x5120.Idx) : ((cfg0.win 3).blk t).view.emb j = j := by
  obtain ⟨e0, e1⟩ := (idx t).2.2.2.1
  funext a; apply Fin.ext
  match a with
  | ⟨0, _⟩ => show win0_3.index t (0 : Fin 2) * 1 + 1 * (j 0).val = (j 0).val; omega
  | ⟨1, _⟩ => show win0_3.index t (1 : Fin 2) * 5120 + 1 * (j 1).val = (j 1).val; omega

/-- Window 4, the up weights: block is the whole array. -/
theorem emb4 (t : Fin cfg0.N) (j : S2304x5120.Idx) : ((cfg0.win 4).blk t).view.emb j = j := by
  obtain ⟨e0, e1⟩ := (idx t).2.2.2.2.1
  funext a; apply Fin.ext
  match a with
  | ⟨0, _⟩ => show win0_4.index t (0 : Fin 2) * 2304 + 1 * (j 0).val = (j 0).val; omega
  | ⟨1, _⟩ => show win0_4.index t (1 : Fin 2) * 5120 + 1 * (j 1).val = (j 1).val; omega

/-- Window 5, the up scales: block is the whole array. -/
theorem emb5 (t : Fin cfg0.N) (j : S1x5120.Idx) : ((cfg0.win 5).blk t).view.emb j = j := by
  obtain ⟨e0, e1⟩ := (idx t).2.2.2.2.2.1
  funext a; apply Fin.ext
  match a with
  | ⟨0, _⟩ => show win0_5.index t (0 : Fin 2) * 1 + 1 * (j 0).val = (j 0).val; omega
  | ⟨1, _⟩ => show win0_5.index t (1 : Fin 2) * 5120 + 1 * (j 1).val = (j 1).val; omega

/-- Window 6, the output: block is the whole array. -/
theorem emb6 (t : Fin cfg0.N) (j : S3072x5120.Idx) : ((cfg0.win 6).blk t).view.emb j = j := by
  obtain ⟨e0, e1⟩ := (idx t).2.2.2.2.2.2
  funext a; apply Fin.ext
  match a with
  | ⟨0, _⟩ => show win0_6.index t (0 : Fin 2) * 3072 + 1 * (j 0).val = (j 0).val; omega
  | ⟨1, _⟩ => show win0_6.index t (1 : Fin 2) * 5120 + 1 * (j 1).val = (j 1).val; omega

/-- What the one point writes back is the formula of the operands. -/
theorem flushed_eq (c : Dev nD) (t : Fin cfg0.N) :
    (dats m 0 c).flushed 6 t = ((cfg0.win 6).blk t).view.read (Elt Ideal) (whole m c) := by
  show (cfg0.win 6).cut (grid0.coords t) ((dats m 0 c).after 6 t) = _
  rw [after0_6, out_eq]
  funext j
  obtain ⟨r, k, rfl⟩ : ∃ (r : Fin 3072) (k : Fin 5120), j = ix2 r k := ⟨j 0, j 1, eq_ix2 j⟩
  show fused silu _ _ _ _ _ _ (ix2 r k) = whole m c (((cfg0.win 6).blk t).view.emb (ix2 r k))
  rw [emb6]
  exact fused_block silu (fun i => congrArg (V m c main_v3) (emb0 t _)) (congrArg (V m c main_v4) (emb1 t _))
    (fun i => congrArg (V m c main_v1) (emb2 t _)) (congrArg (V m c main_v5) (emb3 t _))
    (fun i => congrArg (V m c main_v2) (emb4 t _)) (congrArg (V m c main_v6) (emb5 t _))

/-- Every index of the output array is in the one point's block. -/
theorem covered (i : S3072x5120.Idx) :
    ∃ t : Fin cfg0.N, (cfg0.win 6).flush t = true ∧ i ∈ ((cfg0.win 6).blk t).view.set := by
  refine ⟨t0_0, flush0_6 _, ?_⟩
  have h := ((cfg0.win 6).blk (t0_0)).view.emb_mem_set i
  rwa [emb6] at h

/-- The output array after the region is the formula of the operands. -/
theorem final (c : Dev nD) : (dats m 0 c).arrAt 6 cfg0.N = whole m c :=
  (dats m 0 c).arrAt_eq_of_cover 6 (whole m c) (fun t _ => flushed_eq m c t) covered

/-! ## The result -/

/-- The reshape after the region leaves the result array at the output array, folded. -/
theorem tail_eq (c : Dev nD) : Pipeline.afterTail₀ cfgs (dats m) 0 (V0 m) [hostOps1] c main_v8
    = shapeCast S2x1536x5120 (whole m c) shapeCasts_S3072x5120_S2x1536x5120 := by
  have h : Pipeline.withArrays spec0 c (V0 m c) (fun w => (dats m 0 c).arrAt w cfg0.N) (Proc.devRef (τ := τ) .tc main_v7)
      = whole m c :=
    (Pipeline.withArrays_arr spec0 (by decide) c (V0 m c) (fun w => (dats m 0 c).arrAt w cfg0.N) 6).trans (final m c)
  unfold Pipeline.afterTail₀
  simp only [hostOps1, List.flatten_cons, List.flatten_nil, List.append_nil, StableHlo.after_cons, StableHlo.after_nil]
  rw [StableHlo.reshape_result]
  exact congrArg (fun v => shapeCast S2x1536x5120 v shapeCasts_S3072x5120_S2x1536x5120) h

/-- The run: the result array ends at `result` of the arguments, and the arguments end unchanged. -/
theorem run : θ_run defs (onTc (τ := τ) (main (F := Ideal))) ⟨m, fun _ => 0, ρ⟩ fun r => ∀ c : Dev nD,
      r.2.mem ((c : Thread nD τ).loc main_v8)
        = result silu (decoded (s := S2x1536x2304) (m ((c : Thread nD τ).loc main_arg0))) (m ((c : Thread nD τ).loc main_arg1))
            (decoded (s := S2304x5120) (m ((c : Thread nD τ).loc main_arg2))) (m ((c : Thread nD τ).loc main_arg3))
            (decoded (s := S2304x5120) (m ((c : Thread nD τ).loc main_arg4))) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => by
    refine ⟨((h.1 c).2 main_v8 (Pipeline.mem_restRefs_of main_v8 (by decide) (by decide))).trans ?_, h.2 c⟩
    rw [tail_eq, whole, V_x, V_xs, V_wg, V_gs, V_wu, V_us]
    rfl) (θ_run_and (run_main m ρ) (unchanged m ρ))

end Cert.Proof.ReferenceOfBitsRun

end
-- ==== Proof.GateFinite.lean ====
/- Hand-written, untrusted: WHAT THE PRECONDITION SAYS OF THE GATE. The predicate `gate_finite` checks that no bit pattern of the
   activations or of the gate weights is a NaN pattern and that every row scale and gate scale is finite. Read at the
   extended reals: each decoded operand and each scale is a real number (`decoded_real`, `real_of_abs_lt`), so the scaled
   gate, a sum of products of them, is real too, and in particular is not `-∞` (`gate_ne_bot`). -/
module

public import proofs.«01_k».proof.Proof.Result
public import proofs.«01_k».proof.Proof.Gen.Pre_gate_finite
public import Idealize.ShloMosaic.Lib.ReduceAll

@[expose] public section

noncomputable section

namespace Cert.Proof.GateFinite

open Idealize.ShloMosaic Cert.Proof.Formula Cert.Proof.Result

/-! ## Real numbers among the extended reals -/

/-- A value that is neither `-∞` nor `∞`. -/
def IsReal (z : EReal) : Prop := ∃ r : ℝ, z = r

theorem IsReal.add {a b : EReal} : IsReal a → IsReal b → IsReal (a + b)
  | ⟨r, hr⟩, ⟨q, hq⟩ => ⟨r + q, by rw [hr, hq, EReal.coe_add]⟩

theorem IsReal.mul {a b : EReal} : IsReal a → IsReal b → IsReal (a * b)
  | ⟨r, hr⟩, ⟨q, hq⟩ => ⟨r * q, by rw [hr, hq, EReal.coe_mul]⟩

theorem IsReal.sum {ι : Type} (s : Finset ι) (f : ι → EReal) (h : ∀ i, IsReal (f i)) : IsReal (∑ i ∈ s, f i) :=
  Finset.sum_induction f IsReal (fun _ _ => IsReal.add) ⟨0, by simp⟩ fun i _ => h i

theorem IsReal.ne_bot {z : EReal} : IsReal z → z ≠ ⊥
  | ⟨r, hr⟩ => by rw [hr]; exact EReal.coe_ne_bot r

/-- The scaled sum of products of real operands and scales is real. -/
theorem scaled_real {M N : Nat} (x : FVec Ideal ⟨2, ![M, 2304]⟩ .fp8e4m3) (xs : FVec Ideal ⟨2, ![M, 1]⟩ .f32)
    (w : FVec Ideal ⟨2, ![2304, N]⟩ .fp8e4m3) (s : FVec Ideal ⟨2, ![1, N]⟩ .f32) (hx : ∀ i, IsReal (x i))
    (hxs : ∀ i, IsReal (xs i)) (hw : ∀ i, IsReal (w i)) (hs : ∀ i, IsReal (s i)) (r : Fin M) (c : Fin N) :
    IsReal (scaled x xs w s r c) :=
  ((IsReal.sum _ _ fun _ => (hx _).mul (hw _)).mul (hxs _)).mul (hs _)

/-! ## One element -/

/-- A pattern with all of exponent and fraction set has its low seven bits set. -/
theorem nan_bits : ∀ b : BitVec 8, (b.extractLsb' 3 4).toNat = 15 ∧ (b.extractLsb' 0 3).toNat = 7 →
    b.setWidth 32 &&& 127#32 = 127#32 := by decide +kernel

/-- A pattern whose low seven bits are not all set denotes a real number. -/
theorem decoded_real (b : BitVec 8) (h : b.setWidth 32 &&& 127#32 ≠ 127#32) : IsReal (Ideal.e4m3fn b) := by
  have hn := fun e => h (nan_bits b e)
  unfold Ideal.e4m3fn
  simp only [if_neg hn]
  split
  · exact ⟨_, rfl⟩
  · exact ⟨_, rfl⟩

/-- The constant the scales' absolute values are compared with is `∞`. -/
theorem inf_eq : Ideal.ofBits .f32 0x7F800000#32 = ⊤ := by
  simp [Ideal.ofBits, Ideal.ieee]

/-- A value whose absolute value is below `∞` is real. -/
theorem real_of_abs_lt (z : EReal) (h : Ideal.cmp .olt (max z (-z)) (Ideal.ofBits .f32 0x7F800000#32) = 1#1) : IsReal z := by
  rw [inf_eq] at h
  induction z with
  | bot => simp [Ideal.cmp] at h
  | top => simp [Ideal.cmp] at h
  | coe r => exact ⟨r, rfl⟩

/-! ## The predicate -/

open Cert.Pre_gate_finite Cert.Pre_gate_finite.Gen

variable (x : IVec S2x1536x2304 8) (xs : FVec Ideal S2x1536x1 .f32) (wg : IVec S2304x5120 8) (gs : FVec Ideal S5120 .f32)
  (wu : IVec S2304x5120 8) (us : FVec Ideal S5120 .f32)

instance : Subsingleton S_.Idx := ⟨fun a b => funext fun i => i.elim0⟩

/-- A conjunction of two bits that is 1 has both bits 1. -/
theorem and_one : ∀ a b : BitVec 1, a &&& b = 1#1 → a = 1#1 ∧ b = 1#1 := by decide

/-- The predicate, read: its four conjuncts at every element. -/
theorem read (h : fn (F := Ideal) x xs wg gs wu us = fun _ => 1#1) :
    (∀ i, IsReal (decoded x i)) ∧ (∀ i, IsReal (xs i)) ∧ (∀ i, IsReal (decoded wg i)) ∧ ∀ i, IsReal (gs i) := by
  have h0 := congrFun h (fun i => i.elim0)
  unfold fn fn_part1 at h0
  obtain ⟨h1, h4⟩ := and_one _ _ h0
  obtain ⟨h2, h3⟩ := and_one _ _ h1
  obtain ⟨h1, h2⟩ := and_one _ _ h2
  refine ⟨fun i => ?_, fun i => ?_, fun i => ?_, fun i => ?_⟩
  · have e := Host.reduce_andi_all _ _ _ _ _ h1 i
    refine decoded_real (x i) fun hb => ?_
    have e' : IntOp.cmpi .ne ((x i).setWidth 32 &&& 127#32) 127#32 = 1#1 := e
    rw [hb] at e'
    exact absurd e' (by decide)
  · exact real_of_abs_lt _ (Host.reduce_andi_all _ _ _ _ _ h2 i)
  · have e := Host.reduce_andi_all _ _ _ _ _ h3 i
    refine decoded_real (wg i) fun hb => ?_
    have e' : IntOp.cmpi .ne ((wg i).setWidth 32 &&& 127#32) 127#32 = 1#1 := e
    rw [hb] at e'
    exact absurd e' (by decide)
  · exact real_of_abs_lt _ (Host.reduce_andi_all _ _ _ _ _ h4 i)

/-- Under the predicate no scaled gate is `-∞`. -/
theorem gate_ne_bot (h : fn (F := Ideal) x xs wg gs wu us = fun _ => 1#1) (r : Fin 3072) (c : Fin 5120) :
    scaled (rows (decoded x)) (column xs) (decoded wg) (row gs) r c ≠ ⊥ := by
  obtain ⟨hx, hxs, hw, hs⟩ := read x xs wg gs wu us h
  exact (scaled_real _ _ _ _ (fun i => hx _) (fun i => hxs _) hw (fun i => hs _) r c).ne_bot

end Cert.Proof.GateFinite

end
-- ==== Proof.Values.lean ====
/- Hand-written, untrusted: THE TWO VALUE CLAIMS. Both programs of a pair end with `result` of the same arguments, the kernel at
   its form of silu and the reference at its own; the two forms agree everywhere when the reference is guarded at `-∞`
   (`algebraic`), and wherever the gate is not `-∞` when it is not (`algebraic_of_bits`). -/
module

public import proofs.«01_k».proof.Defs
public import proofs.«01_k».proof.Proof.KernelRun
public import proofs.«01_k».proof.Proof.ReferenceRun
public import proofs.«01_k».proof.Proof.KernelOfBitsRun
public import proofs.«01_k».proof.Proof.ReferenceOfBitsRun
public import proofs.«01_k».proof.Proof.GateFinite

@[expose] public section

noncomputable section

namespace Cert.Proof.Values

open Idealize.ShloMosaic Idealize.ShloMosaic.TcCoe Idealize.SL.Sem Cert.Proof.Result Cert.Proof.Silu

/-- The kernel and the guarded reference end with equal results, from every input. -/
theorem algebraic : Cert.algebraic_KernelIdeal_ReferenceIdeal := by
  intro m g m' g' _ hagree
  refine ⟨fun c => result siluOrBot (m ((c.tc : Thread Cert.KernelIdeal.nD Cert.KernelIdeal.τ).loc Cert.KernelIdeal.main_arg0)) (m ((c.tc : Thread Cert.KernelIdeal.nD Cert.KernelIdeal.τ).loc Cert.KernelIdeal.main_arg1))
        (m ((c.tc : Thread Cert.KernelIdeal.nD Cert.KernelIdeal.τ).loc Cert.KernelIdeal.main_arg2)) (m ((c.tc : Thread Cert.KernelIdeal.nD Cert.KernelIdeal.τ).loc Cert.KernelIdeal.main_arg3))
        (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    (θ_run _ _ _).mono (fun r h c => ⟨(h c).1.trans ?_, (h c).2⟩) (KernelRun.run m g),
    (θ_run _ _ _).mono (fun r h c => ⟨(h c).1.trans ?_, (h c).2⟩) (ReferenceRun.run m' g')⟩
  · exact result_silu_congr _ _ _ _ _ _ fun _ _ => halfTanh_eq_guarded _
  · obtain ⟨h0, h1, h2, h3, h4, h5⟩ := hagree c
    rw [h0, h1, h2, h3, h4, h5]

/-- On bit patterns of finite values the kernel and the plain reference end with equal results. -/
theorem algebraic_of_bits : Cert.algebraic_KernelOfBitsIdeal_ReferenceOfBitsIdeal_pre_gate_finite := by
  intro m g m' g' hpre hagree
  refine ⟨fun c => result silu (decoded (s := Cert.KernelOfBitsIdeal.S2x1536x2304) (m ((c.tc : Thread Cert.KernelOfBitsIdeal.nD Cert.KernelOfBitsIdeal.τ).loc Cert.KernelOfBitsIdeal.main_arg0))) (m ((c.tc : Thread Cert.KernelOfBitsIdeal.nD Cert.KernelOfBitsIdeal.τ).loc Cert.KernelOfBitsIdeal.main_arg1))
        (decoded (s := Cert.KernelOfBitsIdeal.S2304x5120) (m ((c.tc : Thread Cert.KernelOfBitsIdeal.nD Cert.KernelOfBitsIdeal.τ).loc Cert.KernelOfBitsIdeal.main_arg2))) (m ((c.tc : Thread Cert.KernelOfBitsIdeal.nD Cert.KernelOfBitsIdeal.τ).loc Cert.KernelOfBitsIdeal.main_arg3))
        (decoded (s := Cert.KernelOfBitsIdeal.S2304x5120) (m ((c.tc : Thread Cert.KernelOfBitsIdeal.nD Cert.KernelOfBitsIdeal.τ).loc Cert.KernelOfBitsIdeal.main_arg4))) (m ((c.tc : Thread Cert.KernelOfBitsIdeal.nD Cert.KernelOfBitsIdeal.τ).loc Cert.KernelOfBitsIdeal.main_arg5)),
    (θ_run _ _ _).mono (fun r h c => ⟨(h c).1.trans ?_, (h c).2⟩) (KernelOfBitsRun.run m g),
    (θ_run _ _ _).mono (fun r h c => ⟨(h c).1.trans ?_, (h c).2⟩) (ReferenceOfBitsRun.run m' g')⟩
  · exact result_silu_congr _ _ _ _ _ _ fun _ _ => halfTanh_eq (GateFinite.gate_ne_bot _ _ _ _ _ _ (hpre c) _ _)
  · obtain ⟨h0, h1, h2, h3, h4, h5⟩ := hagree c
    rw [h0, h1, h2, h3, h4, h5]

end Cert.Proof.Values

end
-- ==== Proof.lean ====
/- THE PROOF OF `Cert.Claim` (Defs.lean): hand-written, untrusted. The frame claims are the generated frames, the
   idealizations rewrite nothing, and the two value claims are Proof/Values.lean's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelOfBits
public import proofs.«01_k».proof.Proof.Gen.KernelOfBits.Skeleton
public import proofs.«01_k».proof.Proof.Gen.KernelOfBits.Launch
public import proofs.«01_k».proof.Proof.Gen.KernelOfBits.Points
public import proofs.«01_k».proof.Proof.Gen.KernelOfBits.Frame
public import proofs.«01_k».proof.Proof.Gen.KernelOfBitsIdeal
public import proofs.«01_k».proof.Proof.Gen.KernelOfBitsIdeal.Skeleton
public import proofs.«01_k».proof.Proof.Gen.KernelOfBitsIdeal.Launch
public import proofs.«01_k».proof.Proof.Gen.KernelOfBitsIdeal.Points
public import proofs.«01_k».proof.Proof.Gen.KernelOfBitsIdeal.Frame
public import proofs.«01_k».proof.Proof.Gen.ReferenceOfBitsIdeal
public import proofs.«01_k».proof.Proof.Gen.ReferenceOfBitsIdeal.Skeleton
public import proofs.«01_k».proof.Proof.Gen.ReferenceOfBitsIdeal.Launch
public import proofs.«01_k».proof.Proof.Gen.ReferenceOfBitsIdeal.Points
public import proofs.«01_k».proof.Proof.Gen.ReferenceOfBitsIdeal.Frame
public import proofs.«01_k».proof.Proof.Gen.Pre_gate_finite
public import proofs.«01_k».proof.Proof.Values
public import Idealize.ShloMosaic.Adequacy
public import Idealize.ShloMosaic.Init

@[expose] public section

noncomputable section

namespace Cert.Proof

open Idealize.ShloMosaic Idealize.SL.Sem

/-- Every claim of this certificate. -/
theorem claim : Cert.Claim :=
  ⟨Cert.Kernel.Gen.facts, Cert.KernelIdeal.Gen.facts, Cert.ReferenceIdeal.Gen.facts, Cert.KernelOfBits.Gen.facts,
    Cert.KernelOfBitsIdeal.Gen.facts, Cert.ReferenceOfBitsIdeal.Gen.facts, Cert.Pre_gate_finite.Gen.facts,
    fun m ρ _ => Cert.Kernel.Gen.frame m ρ,
    fun m ρ _ => Cert.KernelIdeal.Gen.frame m ρ,
    fun m ρ _ => Cert.ReferenceIdeal.Gen.frame m ρ,
    fun m ρ _ => Cert.KernelOfBits.Gen.frame m ρ,
    fun m ρ _ => Cert.KernelOfBitsIdeal.Gen.frame m ρ,
    fun m ρ _ => Cert.KernelOfBitsIdeal.Gen.frame m ρ,
    fun m ρ _ => Cert.ReferenceOfBitsIdeal.Gen.frame m ρ,
    trivial,
    Values.algebraic,
    trivial,
    Values.algebraic_of_bits⟩

end Cert.Proof

end
